-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grad [hPre_finite_grad : Cert.Pre_finite_grad.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grad.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grad [hPre_finite_grad : Cert.Pre_finite_grad.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grad.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_grad [hKernelIdeal : Cert.KernelIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grad m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_grad [hReferenceIdeal : Cert.ReferenceIdeal.Facts] [hPre_finite_grad : Cert.Pre_finite_grad.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grad m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  IdealRules.named_const.Statement Cert.KernelIdeal.κ "y_scale" .f32 0x3EA88D5C#32 (((20629769475756923 / 50000000000000000) * (Real.sqrt (2 * Real.pi⁻¹)) : ℝ) : EReal)
  ∧ IdealRules.named_const.Statement Cert.KernelIdeal.κ "y_lin" .f32 0x401B1D9B#32 ((50000000000000000 / 20629769475756923 : ℝ) : EReal)
  ∧ IdealRules.named_const.Statement Cert.KernelIdeal.κ "y_lin_third" .f32 0x3F4ED224#32 ((50000000000000000 / 61889308427270769 : ℝ) : EReal)

def preserves_Reference_ReferenceIdeal : Prop :=
  IdealRules.named_const.Statement Cert.ReferenceIdeal.κ "gelu_k" .f32 0x3F4C422A#32 ((Real.sqrt (2 * Real.pi⁻¹) : ℝ) : EReal)
  ∧ IdealRules.named_const.Statement Cert.ReferenceIdeal.κ "gelu_c" .f32 0x3D372713#32 (((8779769719079225391763736241808421255733970302467 / 62500000000000000000000000000000000000000000000000) * Real.pi⁻¹ : ℝ) : EReal)
  ∧ IdealRules.named_const.Statement Cert.ReferenceIdeal.κ "gelu_3c" .f32 0x3E095D4F#32 (((26339309157237676175291208725425263767201910907401 / 62500000000000000000000000000000000000000000000000) * Real.pi⁻¹ : ℝ) : EReal)

def algebraic_KernelIdeal_ReferenceIdeal_pre_finite_grad [hKernelIdeal : Cert.KernelIdeal.Facts] [hReferenceIdeal : Cert.ReferenceIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grad m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_finite_grad : Cert.Pre_finite_grad.Facts),
    quiescent_Kernel (hKernel := hKernel)
    ∧ quiescent_KernelIdeal (hKernelIdeal := hKernelIdeal)
    ∧ quiescent_KernelIdeal_pre_finite_grad (hKernelIdeal := hKernelIdeal) (hPre_finite_grad := hPre_finite_grad)
    ∧ quiescent_ReferenceIdeal (hReferenceIdeal := hReferenceIdeal)
    ∧ quiescent_ReferenceIdeal_pre_finite_grad (hReferenceIdeal := hReferenceIdeal) (hPre_finite_grad := hPre_finite_grad)
    ∧ quiescent_Reference (hReference := hReference)
    ∧ preserves_Kernel_KernelIdeal
    ∧ preserves_Reference_ReferenceIdeal
    ∧ algebraic_KernelIdeal_ReferenceIdeal_pre_finite_grad (hKernelIdeal := hKernelIdeal) (hReferenceIdeal := hReferenceIdeal) (hPre_finite_grad := hPre_finite_grad)
-- ==== Pre_finite_grad.lean ====
abbrev S24576x3072 : Shape := ⟨2, ![24576, 3072]⟩
abbrev S_ : Shape := ⟨0, ![]⟩

class Facts : Prop where
  bitsLt_bf16_f32 : FTy.bits .bf16 < FTy.bits .f32
  bcast_S_S24576x3072 : S_.BroadcastsInDim S24576x3072 (![] : Fin 0 → Fin S24576x3072.rank)

variable [Facts]

def fn {F : FTy → Type} [FloatOps F] (main_arg0 : FVec F S24576x3072 .bf16) (main_arg1 : FVec F S24576x3072 .bf16) : IVec S24576x3072 1 :=
  let main_v0 : FVec F S24576x3072 .f32 := (extf .f32 · bitsLt_bf16_f32) main_arg0
  let main_v1 : FVec F S24576x3072 .f32 := Host.absf main_v0
  let main_cst : FVec F S_ .f32 := constant S_ .f32 0x7F7F0000#32
  let main_v2 : FVec F S24576x3072 .f32 := broadcastInDim S24576x3072 ![] bcast_S_S24576x3072 main_cst
  let main_v3 : IVec S24576x3072 1 := cmpf .ole main_v1 main_v2
  main_v3
-- ==== Kernel.lean ====
abbrev S24576x3072 : Shape := ⟨2, ![24576, 3072]⟩
abbrev S8x3072 : Shape := ⟨2, ![8, 3072]⟩
abbrev S96x24576 : Shape := ⟨2, ![96, 24576]⟩
abbrev S3072x24576 : Shape := ⟨2, ![3072, 24576]⟩
abbrev S768x3072 : Shape := ⟨2, ![768, 3072]⟩
abbrev S256x3072 : Shape := ⟨2, ![256, 3072]⟩
abbrev S96x256 : Shape := ⟨2, ![96, 256]⟩
abbrev S3072x256 : Shape := ⟨2, ![3072, 256]⟩
abbrev S8x256 : Shape := ⟨2, ![8, 256]⟩
abbrev S256x256 : Shape := ⟨2, ![256, 256]⟩
abbrev S32x8x256 : Shape := ⟨3, ![32, 8, 256]⟩
abbrev S8x32x256 : Shape := ⟨3, ![8, 32, 256]⟩
abbrev S8x1x256 : Shape := ⟨3, ![8, 1, 256]⟩
abbrev S_ : Shape := ⟨0, ![]⟩
abbrev S3072 : Shape := ⟨1, ![3072]⟩
abbrev S24576x96 : Shape := ⟨2, ![24576, 96]⟩
abbrev S3072x768 : Shape := ⟨2, ![3072, 768]⟩

abbrev nBuf : Space → Nat
  | .hbm => 13
  | .vmem => 13
  | .smem => 0
  | _ => 0

abbrev bufTy : (tb : Table) → Fin (tcTables nBuf tb) → BufTy
  | .hbm, ⟨0, _⟩ => ⟨S24576x3072, .bf16⟩
  | .hbm, ⟨1, _⟩ => ⟨S24576x3072, .bf16⟩
  | .hbm, ⟨2, _⟩ => ⟨S8x3072, .f32⟩
  | .hbm, ⟨3, _⟩ => ⟨S24576x3072, .fp8e4m3⟩
  | .hbm, ⟨4, _⟩ => ⟨S96x24576, .i32⟩
  | .hbm, ⟨5, _⟩ => ⟨S3072x24576, .fp8e4m3⟩
  | .hbm, ⟨6, _⟩ => ⟨S768x3072, .i32⟩
  | .hbm, ⟨7, _⟩ => ⟨S_, .f32⟩
  | .hbm, ⟨8, _⟩ => ⟨S3072, .f32⟩
  | .hbm, ⟨9, _⟩ => ⟨S24576x96, .i32⟩
  | .hbm, ⟨10, _⟩ => ⟨S24576x96, .i8⟩
  | .hbm, ⟨11, _⟩ => ⟨S3072x768, .i32⟩
  | .hbm, ⟨12, _⟩ => ⟨S3072x768, .i8⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S8x3072, .f32⟩
  | .local _ .vmem, ⟨5, _⟩ => ⟨S256x3072, .fp8e4m3⟩
  | .local _ .vmem, ⟨6, _⟩ => ⟨S256x3072, .fp8e4m3⟩
  | .local _ .vmem, ⟨7, _⟩ => ⟨S96x256, .i32⟩
  | .local _ .vmem, ⟨8, _⟩ => ⟨S96x256, .i32⟩
  | .local _ .vmem, ⟨9, _⟩ => ⟨S3072x256, .fp8e4m3⟩
  | .local _ .vmem, ⟨10, _⟩ => ⟨S3072x256, .fp8e4m3⟩
  | .local _ .vmem, ⟨11, _⟩ => ⟨S8x3072, .i32⟩
  | .local _ .vmem, ⟨12, _⟩ => ⟨S8x3072, .i32⟩
  | _, _ => ⟨S24576x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x3072 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "y_lin" => some ((50000000000000000 / 20629769475756923 : ℝ) : EReal)
  | "y_lin_third" => some ((50000000000000000 / 61889308427270769 : ℝ) : EReal)
  | "y_scale" => some (((20629769475756923 / 50000000000000000) * (Real.sqrt (2 * Real.pi⁻¹)) : ℝ) : EReal)
  | _ => none
-- ==== ReferenceIdeal.lean ====
variable {F : FTy → Type} [FloatOps F] [Named F]
def κ : String → Option EReal := fun
  | "gelu_3c" => some (((26339309157237676175291208725425263767201910907401 / 62500000000000000000000000000000000000000000000000) * Real.pi⁻¹ : ℝ) : EReal)
  | "gelu_c" => some (((8779769719079225391763736241808421255733970302467 / 62500000000000000000000000000000000000000000000000) * Real.pi⁻¹ : ℝ) : EReal)
  | "gelu_k" => some ((Real.sqrt (2 * Real.pi⁻¹) : ℝ) : EReal)
  | _ => none
-- ==== Reference.lean ====
abbrev S24576x3072 : Shape := ⟨2, ![24576, 3072]⟩
abbrev S3072 : Shape := ⟨1, ![3072]⟩
abbrev S24576x96 : Shape := ⟨2, ![24576, 96]⟩
abbrev S3072x24576 : Shape := ⟨2, ![3072, 24576]⟩
abbrev S3072x768 : Shape := ⟨2, ![3072, 768]⟩
abbrev S24576x96x32 : Shape := ⟨3, ![24576, 96, 32]⟩
abbrev S24576x96x1 : Shape := ⟨3, ![24576, 96, 1]⟩
abbrev S768x32x3072 : Shape := ⟨3, ![768, 32, 3072]⟩
abbrev S768x3072 : Shape := ⟨2, ![768, 3072]⟩
abbrev S768x1x3072 : Shape := ⟨3, ![768, 1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S24576x3072, .bf16⟩
  | .hbm, ⟨1, _⟩ => ⟨S24576x3072, .bf16⟩
  | .hbm, ⟨2, _⟩ => ⟨S3072, .f32⟩
  | .hbm, ⟨3, _⟩ => ⟨S24576x3072, .fp8e4m3⟩
  | .hbm, ⟨4, _⟩ => ⟨S24576x96, .i8⟩
  | .hbm, ⟨5, _⟩ => ⟨S3072x24576, .fp8e4m3⟩
  | .hbm, ⟨6, _⟩ => ⟨S3072x768, .i8⟩
  | .local _ .vmem, ⟨0, _⟩ => ⟨S24576x3072, .bf16⟩
  | .local _ .vmem, ⟨1, _⟩ => ⟨S24576x3072, .bf16⟩
  | .local _ .vmem, ⟨2, _⟩ => ⟨S3072, .f32⟩
  | .local _ .vmem, ⟨3, _⟩ => ⟨S24576x3072, .fp8e4m3⟩
  | .local _ .vmem, ⟨4, _⟩ => ⟨S24576x96, .i8⟩
  | .local _ .vmem, ⟨5, _⟩ => ⟨S3072x24576, .fp8e4m3⟩
  | .local _ .vmem, ⟨6, _⟩ => ⟨S3072x768, .i8⟩
  | _, _ => ⟨S24576x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x96 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x24576 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x768 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Mx.Tile.lean ====
module

public import proofs.«01_k».proof.Proof.Gen.KernelIdeal.Skeleton

/-!
# What the kernel computes of one chunk

The kernel's body is twelve copies of one computation, each on a chunk of 256 rows and 256 columns of the two inputs.
This module states that computation once. `tileD` is the chunk's gradient, `tileBias` its contribution to the bias
gradient added to what the accumulator holds, `tileColScale` and `tileColCode` the quantization along the rows
(groups of 32 tokens), `tileRowScale` and `tileRowCode` the one along the columns (groups of 32 channels).
-/

@[expose] public section

noncomputable section

namespace Cert.KernelIdeal.Mx

open Idealize.ShloMosaic Cert.KernelIdeal.Gen

variable {F : FTy → Type} [FloatOps F] [Named F]

/-- The gradient of one chunk. -/
def tileD (g x : Vec F S256x256 .bf16) : FVec F S256x256 .f32 :=
  k0_pay8 (k0_pay4 g) (k0_pay5 x) (k0_pay6 x) (k0_pay7 x)

/-- One step of the exponent's binary search. -/
def tileStep (s : FVec F S8x256 .f32) (b : IVec S8x256 32) (k : BitVec 32) : IVec S8x256 32 :=
  select (cmpf .oge s (bitcastToFloat .f32 (shli (addi b (broadcast S8x256 k)) (broadcast S8x256 23#32))))
    (addi b (broadcast S8x256 k)) b

/-- The exponents of the scales `s`: zero for a scale that is zero. -/
def tileExp (s : FVec F S8x256 .f32) : IVec S8x256 32 :=
  select (cmpf .oeq s (broadcast S8x256 (Scalar.ofBits .f32 0x00000000#32))) (broadcast S8x256 0#32)
    (subi (tileStep s (tileStep s (tileStep s (tileStep s (tileStep s (tileStep s (tileStep s (tileStep s
      (broadcast S8x256 0#32) 128#32) 64#32) 32#32) 16#32) 8#32) 4#32) 2#32) 1#32) (broadcast S8x256 126#32))

/-- The exponents as the kernel stores them. -/
def tileScale (s : FVec F S8x256 .f32) : IVec S8x256 32 :=
  addi (tileExp s) (broadcast S8x256 127#32)

/-- The reciprocals of the scales' powers of two. -/
def tileInv (s : FVec F S8x256 .f32) : FVec F S8x256 .f32 :=
  bitcastToFloat .f32 (shli (subi (broadcast S8x256 127#32) (tileExp s)) (broadcast S8x256 23#32))

/-- The largest of each 32 rows' absolute values, over 448. -/
def tileMax (a : FVec F S256x256 .f32) : FVec F S8x256 .f32 :=
  mulf (multiReduction .maximumf [1] S8x256 (shapeCast S8x32x256 a shapeCasts_S256x256_S8x32x256) 0xFF800000#32
    reduces_S8x32x256_S8x256 (.inl rfl) rfl) (broadcast S8x256 (Scalar.ofBits .f32 0x3B124925#32))

/-- The scales along the rows (one for each 32 rows and each column). -/
def tileColMax (d : FVec F S256x256 .f32) : FVec F S8x256 .f32 := tileMax (absf d)

/-- The scales along the columns, transposed (one for each 32 columns and each row). -/
def tileRowMax (d : FVec F S256x256 .f32) : FVec F S8x256 .f32 :=
  tileMax (transpose S256x256 [1, 0] (absf d) transposes_S256x256_p1_0_S256x256)

/-- The chunk's stored exponents along the rows. -/
def tileColScale (d : FVec F S256x256 .f32) : IVec S8x256 32 := tileScale (tileColMax d)

/-- The chunk's stored exponents along the columns. -/
def tileRowScale (d : FVec F S256x256 .f32) : IVec S8x256 32 := tileScale (tileRowMax d)

/-- The chunk quantized along the rows, transposed. -/
def tileColCode (d : FVec F S256x256 .f32) : FVec F S256x256 .fp8e4m3 :=
  truncf .fp8e4m3 (transpose S256x256 [1, 0] (shapeCast S256x256
    (minimumf (broadcast S8x32x256 (Scalar.ofBits .f32 0x43E00000#32))
      (maximumf (broadcast S8x32x256 (Scalar.ofBits .f32 0xC3E00000#32))
        (mulf (shapeCast S8x32x256 d shapeCasts_S256x256_S8x32x256)
          (broadcastTo S8x32x256 (shapeCast S8x1x256 (tileInv (tileColMax d)) shapeCasts_S8x256_S8x1x256)
            broadcasts_S8x1x256_S8x32x256)))) shapeCasts_S8x32x256_S256x256)
    transposes_S256x256_p1_0_S256x256) bitsLt_fp8e4m3_f32

/-- The chunk quantized along the columns. The one-hot product spreads each scale over its 32 columns. -/
def tileRowCode (d : FVec F S256x256 .f32) : FVec F S256x256 .fp8e4m3 :=
  truncf .fp8e4m3
    (minimumf (broadcast S256x256 (Scalar.ofBits .f32 0x43E00000#32))
      (maximumf (broadcast S256x256 (Scalar.ofBits .f32 0xC3E00000#32))
        (mulf d (matmul dot_S8x256_S8x256_S256x256_0_0_1_1_n_n none
          (truncf .bf16 (tileInv (tileRowMax d)) bitsLt_bf16_f32) k0_pay3
          (constant S256x256 .f32 0x00000000#32))))) bitsLt_fp8e4m3_f32

/-- The accumulator's chunk after the chunk's rows are added to it, in groups of 8. -/
def tileBias (old : Vec F S8x256 .f32) (d : FVec F S256x256 .f32) : FVec F S8x256 .f32 :=
  addf (shapeCast S8x256 old shapeCasts_S8x256_S8x256)
    (multiReduction .add [0] S8x256 (shapeCast S32x8x256 d shapeCasts_S256x256_S32x8x256) 0x00000000#32
      reduces_S32x8x256_S8x256 (.inl rfl) rfl)

end Cert.KernelIdeal.Mx

end
-- ==== Proof.Mx.Pieces.lean ====
module

public import proofs.«01_k».proof.Proof.Gen.KernelIdeal.Frame
public import proofs.«01_k».proof.Proof.Mx.Tile

/-!
# What the kernel's body leaves in each output block

Each output block is filled by twelve stores, one for each chunk of 256 columns. This module names the twelve stores
uniformly in the chunk's number (`piece3` … `piece6`, and `acc2` for the accumulated bias gradient) and shows that the
pieces found by running the body are those, at the first point of the grid (case A) and at every other (case B).
-/

@[expose] public section

set_option maxRecDepth 16384

noncomputable section

namespace Cert.KernelIdeal.Mx

open Idealize.ShloMosaic Idealize.ShloMosaic.TcCoe Idealize.ShloMosaic.Tactic Cert.KernelIdeal.Gen

variable {F : FTy → Type} [FloatOps F] [Named F]

/-- The twelve chunks, the last stored first. -/
def chunks : List (Fin 12) := [11, 10, 9, 8, 7, 6, 5, 4, 3, 2, 1, 0]

theorem mem_chunks (k : Fin 12) : k ∈ chunks := by revert k; decide

theorem inbCol (n : ℕ) (k : Fin 12) : ∀ a, (![0, 256 * k.val] : Fin 2 → ℕ) a + (![n, 256] : Fin 2 → ℕ) a ≤ (![n, 3072] : Fin 2 → ℕ) a := by
  intro a
  match a with
  | 0 => show 0 + n ≤ n; omega
  | 1 => show 256 * k.val + 256 ≤ 3072; omega

theorem inbRow (n : ℕ) (k : Fin 12) : ∀ a, (![n * k.val, 0] : Fin 2 → ℕ) a + (![n, 256] : Fin 2 → ℕ) a ≤ (![n * 12, 256] : Fin 2 → ℕ) a := by
  intro a
  match a with
  | 0 => show n * k.val + n ≤ n * 12; have := Nat.mul_le_mul_left n (show k.val + 1 ≤ 12 by omega); rw [Nat.mul_add, Nat.mul_one] at this; exact this
  | 1 => show 0 + 256 ≤ 256; omega

/-- The chunk `k` of an input block. -/
def chunk (x : Vec F S256x3072 .bf16) (k : Fin 12) : Vec F S256x256 .bf16 :=
  View.ld x (Rect.unit (s := S256x3072) ![0, 256 * k.val] S256x256.size (inbCol 256 k))

/-- The same as the body loads it. -/
def rd (a : Memref sig .tc .vmem S256x3072 .bf16) (ha : a.IsWhole) (x : Vec F S256x3072 .bf16) (k : Fin 12) :
    Vec F S256x256 .bf16 :=
  View.readAt (Elt F) a.view (Rect.unit (s := S256x3072) ![0, 256 * k.val] S256x256.size (inbCol 256 k)).toLoadRect
    (ha.unread x)

theorem rd_eq (a : Memref sig .tc .vmem S256x3072 .bf16) (ha : a.IsWhole) (x : Vec F S256x3072 .bf16) :
    rd a ha x = chunk x := by
  funext k
  unfold rd chunk
  rw [View.readAt_eq_ld, ha.read_unread]

/-- The gradients of the twelve chunks. -/
def chunkD (g x : Fin 12 → Vec F S256x256 .bf16) (k : Fin 12) : FVec F S256x256 .f32 := tileD (g k) (x k)

/-- Chunk `k`'s store of the codes along the columns. -/
def piece3 (d : Fin 12 → FVec F S256x256 .f32) (k : Fin 12) : View.Piece (Elt F) S256x3072 .fp8e4m3 :=
  ⟨Rect.unit (s := S256x3072) ![0, 256 * k.val] S256x256.size (inbCol 256 k), tileRowCode (d k)⟩

/-- Chunk `k`'s store of the scales along the columns. -/
def piece4 (d : Fin 12 → FVec F S256x256 .f32) (k : Fin 12) : View.Piece (Elt F) S96x256 .i32 :=
  ⟨Rect.unit (s := S96x256) ![8 * k.val, 0] S8x256.size (inbRow 8 k), tileRowScale (d k)⟩

/-- Chunk `k`'s store of the codes along the rows. -/
def piece5 (d : Fin 12 → FVec F S256x256 .f32) (k : Fin 12) : View.Piece (Elt F) S3072x256 .fp8e4m3 :=
  ⟨Rect.unit (s := S3072x256) ![256 * k.val, 0] S256x256.size (inbRow 256 k), tileColCode (d k)⟩

/-- Chunk `k`'s store of the scales along the rows. -/
def piece6 (d : Fin 12 → FVec F S256x256 .f32) (k : Fin 12) : View.Piece (Elt F) S8x3072 .i32 :=
  ⟨Rect.unit (s := S8x3072) ![0, 256 * k.val] S8x256.size (inbCol 8 k), tileColScale (d k)⟩

/-- Chunk `k` of the accumulator. -/
def rect2 (k : Fin 12) : Rect S8x3072 := Rect.unit (s := S8x3072) ![0, 256 * k.val] S8x256.size (inbCol 8 k)

/-- Chunk `k`'s store of the bias gradient over what the block held before the body. -/
def piece2 (prev : Fin 12 → Vec F S8x256 .f32) (d : Fin 12 → FVec F S256x256 .f32) (k : Fin 12) :
    View.Piece (Elt F) S8x3072 .f32 :=
  ⟨rect2 k, tileBias (prev k) (d k)⟩

/-- The stores of the bias gradient before chunk `n`, where the body clears the block first. -/
def acc2 (a : Memref sig .tc .vmem S8x3072 .f32) (d : Fin 12 → FVec F S256x256 .f32) :
    (n : ℕ) → n ≤ 12 → List (View.Piece (Elt F) S8x3072 .f32)
  | 0, _ => [⟨Rect.unit (s := S8x3072) ![0, 0] S8x3072.size inb_S8x3072_S8x3072_0_0, k0_pay2⟩]
  | n + 1, h =>
    (⟨rect2 ⟨n, h⟩, tileBias (a.view.readCov (acc2 a d n (Nat.le_of_succ_le h)) (rect2 ⟨n, h⟩).toLoadRect) (d ⟨n, h⟩)⟩ :
      View.Piece (Elt F) S8x3072 .f32) :: acc2 a d n (Nat.le_of_succ_le h)

/-- Chunk `k` of the accumulator as the body loads it. -/
def rd2 (a : Memref sig .tc .vmem S8x3072 .f32) (ha : a.IsWhole) (x : Vec F S8x3072 .f32) (k : Fin 12) :
    Vec F S8x256 .f32 :=
  View.readAt (Elt F) a.view (rect2 k).toLoadRect (ha.unread x)

theorem rd2_eq (a : Memref sig .tc .vmem S8x3072 .f32) (ha : a.IsWhole) (x : Vec F S8x3072 .f32) :
    rd2 a ha x = fun k => View.ld x (rect2 k) := by
  funext k
  unfold rd2
  rw [View.readAt_eq_ld, ha.read_unread]

variable (c : Dev nD) (i : grid0.Coords)
  (arg1 : Memref sig .tc .vmem S256x3072 .bf16) (harg1 : arg1.IsWhole)
  (arg2 : Memref sig .tc .vmem S256x3072 .bf16) (harg2 : arg2.IsWhole)
  (arg3 : Memref sig .tc .vmem S8x3072 .f32) (harg3 : arg3.IsWhole)
  (arg4 : Memref sig .tc .vmem S256x3072 .fp8e4m3) (harg4 : arg4.IsWhole)
  (arg5 : Memref sig .tc .vmem S96x256 .i32) (harg5 : arg5.IsWhole)
  (arg6 : Memref sig .tc .vmem S3072x256 .fp8e4m3) (harg6 : arg6.IsWhole)
  (arg7 : Memref sig .tc .vmem S8x3072 .i32) (harg7 : arg7.IsWhole)
  (x0 x1 : Vec F S256x3072 .bf16)

theorem out2_A (hc0 : cond0_0 i) :
    out0_A_2 c i arg1 harg1 arg2 harg2 arg3 harg3 arg4 harg4 arg5 harg5 arg6 harg6 arg7 harg7 hc0 x0 x1 = View.canon (acc2 arg3 (chunkD (chunk x0) (chunk x1)) 12 le_rfl) := by
  unfold out0_A_2
  rw [View.read_writes_eq_canon _ _ _ (cover0_A_2 c i arg1 harg1 arg2 harg2 arg3 harg3 arg4 harg4 arg5 harg5 arg6 harg6 arg7 harg7 hc0 x0 x1), ← rd_eq arg1 harg1 x0, ← rd_eq arg2 harg2 x1]
  exact congrArg View.canon rfl

theorem out3_A (hc0 : cond0_0 i) :
    out0_A_3 c i arg1 harg1 arg2 harg2 arg3 harg3 arg4 harg4 arg5 harg5 arg6 harg6 arg7 harg7 hc0 x0 x1 = View.canon (chunks.map (piece3 (chunkD (chunk x0) (chunk x1)))) := by
  unfold out0_A_3
  rw [View.read_writes_eq_canon _ _ _ (cover0_A_3 c i arg1 harg1 arg2 harg2 arg3 harg3 arg4 harg4 arg5 harg5 arg6 harg6 arg7 harg7 hc0 x0 x1), ← rd_eq arg1 harg1 x0, ← rd_eq arg2 harg2 x1]
  exact congrArg View.canon rfl

theorem out4_A (hc0 : cond0_0 i) :
    out0_A_4 c i arg1 harg1 arg2 harg2 arg3 harg3 arg4 harg4 arg5 harg5 arg6 harg6 arg7 harg7 hc0 x0 x1 = View.canon (chunks.map (piece4 (chunkD (chunk x0) (chunk x1)))) := by
  unfold out0_A_4
  rw [View.read_writes_eq_canon _ _ _ (cover0_A_4 c i arg1 harg1 arg2 harg2 arg3 harg3 arg4 harg4 arg5 harg5 arg6 harg6 arg7 harg7 hc0 x0 x1), ← rd_eq arg1 harg1 x0, ← rd_eq arg2 harg2 x1]
  exact congrArg View.canon rfl

theorem out5_A (hc0 : cond0_0 i) :
    out0_A_5 c i arg1 harg1 arg2 harg2 arg3 harg3 arg4 harg4 arg5 harg5 arg6 harg6 arg7 harg7 hc0 x0 x1 = View.canon (chunks.map (piece5 (chunkD (chunk x0) (chunk x1)))) := by
  unfold out0_A_5
  rw [View.read_writes_eq_canon _ _ _ (cover0_A_5 c i arg1 harg1 arg2 harg2 arg3 harg3 arg4 harg4 arg5 harg5 arg6 harg6 arg7 harg7 hc0 x0 x1), ← rd_eq arg1 harg1 x0, ← rd_eq arg2 harg2 x1]
  exact congrArg View.canon rfl

theorem out6_A (hc0 : cond0_0 i) :
    out0_A_6 c i arg1 harg1 arg2 harg2 arg3 harg3 arg4 harg4 arg5 harg5 arg6 harg6 arg7 harg7 hc0 x0 x1 = View.canon (chunks.map (piece6 (chunkD (chunk x0) (chunk x1)))) := by
  unfold out0_A_6
  rw [View.read_writes_eq_canon _ _ _ (cover0_A_6 c i arg1 harg1 arg2 harg2 arg3 harg3 arg4 harg4 arg5 harg5 arg6 harg6 arg7 harg7 hc0 x0 x1), ← rd_eq arg1 harg1 x0, ← rd_eq arg2 harg2 x1]
  exact congrArg View.canon rfl

theorem out2_B (hc0 : ¬ cond0_0 i) (prev : Vec F S8x3072 .f32) :
    out0_B_2 c i arg1 harg1 arg2 harg2 arg3 harg3 arg4 harg4 arg5 harg5 arg6 harg6 arg7 harg7 hc0 x0 x1 prev = View.canon (chunks.map (piece2 (fun k => View.ld prev (rect2 k)) (chunkD (chunk x0) (chunk x1)))) := by
  unfold out0_B_2
  rw [View.read_writes_eq_canon _ _ _ (cover0_B_2 c i arg1 harg1 arg2 harg2 arg3 harg3 arg4 harg4 arg5 harg5 arg6 harg6 arg7 harg7 hc0 x0 x1 prev), ← rd_eq arg1 harg1 x0, ← rd_eq arg2 harg2 x1, ← rd2_eq arg3 harg3 prev]
  exact congrArg View.canon rfl

theorem out3_B (hc0 : ¬ cond0_0 i) (prev : Vec F S8x3072 .f32) :
    out0_B_3 c i arg1 harg1 arg2 harg2 arg3 harg3 arg4 harg4 arg5 harg5 arg6 harg6 arg7 harg7 hc0 x0 x1 prev = View.canon (chunks.map (piece3 (chunkD (chunk x0) (chunk x1)))) := by
  unfold out0_B_3
  rw [View.read_writes_eq_canon _ _ _ (cover0_B_3 c i arg1 harg1 arg2 harg2 arg3 harg3 arg4 harg4 arg5 harg5 arg6 harg6 arg7 harg7 hc0 x0 x1 prev), ← rd_eq arg1 harg1 x0, ← rd_eq arg2 harg2 x1]
  exact congrArg View.canon rfl

theorem out4_B (hc0 : ¬ cond0_0 i) (prev : Vec F S8x3072 .f32) :
    out0_B_4 c i arg1 harg1 arg2 harg2 arg3 harg3 arg4 harg4 arg5 harg5 arg6 harg6 arg7 harg7 hc0 x0 x1 prev = View.canon (chunks.map (piece4 (chunkD (chunk x0) (chunk x1)))) := by
  unfold out0_B_4
  rw [View.read_writes_eq_canon _ _ _ (cover0_B_4 c i arg1 harg1 arg2 harg2 arg3 harg3 arg4 harg4 arg5 harg5 arg6 harg6 arg7 harg7 hc0 x0 x1 prev), ← rd_eq arg1 harg1 x0, ← rd_eq arg2 harg2 x1]
  exact congrArg View.canon rfl

theorem out5_B (hc0 : ¬ cond0_0 i) (prev : Vec F S8x3072 .f32) :
    out0_B_5 c i arg1 harg1 arg2 harg2 arg3 harg3 arg4 harg4 arg5 harg5 arg6 harg6 arg7 harg7 hc0 x0 x1 prev = View.canon (chunks.map (piece5 (chunkD (chunk x0) (chunk x1)))) := by
  unfold out0_B_5
  rw [View.read_writes_eq_canon _ _ _ (cover0_B_5 c i arg1 harg1 arg2 harg2 arg3 harg3 arg4 harg4 arg5 harg5 arg6 harg6 arg7 harg7 hc0 x0 x1 prev), ← rd_eq arg1 harg1 x0, ← rd_eq arg2 harg2 x1]
  exact congrArg View.canon rfl

theorem out6_B (hc0 : ¬ cond0_0 i) (prev : Vec F S8x3072 .f32) :
    out0_B_6 c i arg1 harg1 arg2 harg2 arg3 harg3 arg4 harg4 arg5 harg5 arg6 harg6 arg7 harg7 hc0 x0 x1 prev = View.canon (chunks.map (piece6 (chunkD (chunk x0) (chunk x1)))) := by
  unfold out0_B_6
  rw [View.read_writes_eq_canon _ _ _ (cover0_B_6 c i arg1 harg1 arg2 harg2 arg3 harg3 arg4 harg4 arg5 harg5 arg6 harg6 arg7 harg7 hc0 x0 x1 prev), ← rd_eq arg1 harg1 x0, ← rd_eq arg2 harg2 x1]
  exact congrArg View.canon rfl

end Cert.KernelIdeal.Mx

end
-- ==== Proof.Mx.Gelu.lean ====
module

public import Idealize.ShloMosaic.PureOps
public import Idealize.ShloMosaic.Lib.IdealHost
public import Mathlib.Analysis.SpecialFunctions.Trigonometric.DerivHyp

/-!
# The derivative of the tanh approximation of GELU, two ways

The kernel and the reference compute one real function of `x`, times the incoming gradient `g`. With `K = √(2/π)`
and `C = 2ρ³/π` (so that `C = ρ³K²`), the reference uses `u = K x (1 + C x²)` and

  `½ (1 + tanh u) + ½ x (1 − tanh² u) K (1 + 3 C x²)`;

the kernel scales `x` first, `y = ρ K x`, so that `u = y (y² + 1/ρ)`, and factors `1 − tanh² u`:

  `(1 + tanh u) (½ + (3/2) y (y² + 1/(3ρ)) (1 − tanh u))`.

`factorK_eq` and `factorR_eq` say that both are one real number `factorE x` at every extended real `x`, infinities
included; `factorE_bound` says that its absolute value is at most 2.
-/

@[expose] public section

noncomputable section

namespace Cert.Mx

open Idealize.ShloMosaic

/-- The cube root of `0.044715 · π / 2`, to 17 digits: the constant the two programs' folded constants are read by. -/
def rho : ℝ := 20629769475756923 / 50000000000000000

/-- `√(2/π)`. -/
def gK : ℝ := Real.sqrt (2 * Real.pi⁻¹)

/-- The coefficient of the cubic term, `2 ρ³ / π`. -/
def gC : ℝ := 2 * rho ^ 3 * Real.pi⁻¹

theorem rho_pos : 0 < rho := by unfold rho; norm_num

theorem gK_pos : 0 < gK := Real.sqrt_pos.mpr (mul_pos two_pos (inv_pos.mpr Real.pi_pos))

theorem gK_sq : gK ^ 2 = 2 * Real.pi⁻¹ := Real.sq_sqrt (mul_pos two_pos (inv_pos.mpr Real.pi_pos)).le

theorem gC_eq : gC = rho ^ 3 * gK ^ 2 := by rw [gK_sq, gC]; ring

theorem gC_pos : 0 < gC := by rw [gC_eq]; exact mul_pos (pow_pos rho_pos 3) (pow_pos gK_pos 2)

/-- The reference's factor at a real `x`. -/
def factor (x : ℝ) : ℝ :=
  1 / 2 * (1 + Real.tanh (gK * x * (1 + gC * (x * x))))
    + 1 / 2 * x * (1 - Real.tanh (gK * x * (1 + gC * (x * x))) * Real.tanh (gK * x * (1 + gC * (x * x)))) * gK
      * (1 + 3 * gC * (x * x))

/-- The kernel's argument of `tanh` is the reference's. -/
theorem arg_eq (x : ℝ) :
    x * (rho * gK) * (x * (rho * gK) * (x * (rho * gK)) + 1 / rho) = gK * x * (1 + gC * (x * x)) := by
  have h := rho_pos.ne'
  rw [gC_eq]; field_simp; ring

/-- The kernel's polynomial is the derivative of the reference's `u`, times `x / 3`. -/
theorem poly_eq (x : ℝ) :
    3 / 2 * (x * (rho * gK) * (x * (rho * gK) * (x * (rho * gK)) + 1 / (3 * rho)))
      = 1 / 2 * x * gK * (1 + 3 * gC * (x * x)) := by
  have h := rho_pos.ne'
  rw [gC_eq]; field_simp; ring

/-- The kernel's factor at a real `x` is the reference's. -/
theorem factor_eq (x : ℝ) :
    (1 + Real.tanh (x * (rho * gK) * (x * (rho * gK) * (x * (rho * gK)) + 1 / rho)))
      * (1 / 2 + 3 / 2 * (x * (rho * gK) * (x * (rho * gK) * (x * (rho * gK)) + 1 / (3 * rho)))
        * (1 - Real.tanh (x * (rho * gK) * (x * (rho * gK) * (x * (rho * gK)) + 1 / rho)))) = factor x := by
  rw [arg_eq, poly_eq, factor]; ring

/-- `u (1 − tanh² u)` is at most one half in absolute value: `1 − tanh² u` is `1 / cosh² u`, and `cosh² u ≥ 1 + u²`. -/
theorem abs_mul_sech_sq (u : ℝ) : |u * (1 - Real.tanh u ^ 2)| ≤ 1 / 2 := by
  have hc : 0 < Real.cosh u := Real.cosh_pos u
  have h1 : 1 - Real.tanh u ^ 2 = 1 / Real.cosh u ^ 2 := by
    rw [Real.tanh_eq_sinh_div_cosh]; field_simp; nlinarith [Real.cosh_sq u]
  have hs : |u| ≤ |Real.sinh u| := by
    rcases le_total 0 u with h | h
    · rw [abs_of_nonneg h, abs_of_nonneg (Real.sinh_nonneg_iff.mpr h)]; exact Real.self_le_sinh_iff.mpr h
    · rw [abs_of_nonpos h, abs_of_nonpos (Real.sinh_nonpos_iff.mpr h)]
      exact neg_le_neg (Real.sinh_le_self_iff.mpr h)
  have h2 : 1 + |u| ^ 2 ≤ Real.cosh u ^ 2 := by
    rw [Real.cosh_sq, ← sq_abs (Real.sinh u)]
    nlinarith [pow_le_pow_left₀ (abs_nonneg u) hs 2]
  rw [h1, abs_mul, abs_of_pos (by positivity : (0 : ℝ) < 1 / Real.cosh u ^ 2), mul_one_div,
    div_le_div_iff₀ (by positivity) two_pos]
  nlinarith [sq_nonneg (|u| - 1)]

/-- The factor is at most 2 in absolute value. -/
theorem factor_bound (x : ℝ) : |factor x| ≤ 2 := by
  set u : ℝ := gK * x * (1 + gC * (x * x)) with hu
  have ht1 : Real.tanh u < 1 := Real.tanh_lt_one u
  have ht2 : -1 < Real.tanh u := Real.neg_one_lt_tanh u
  have hp : |gK * x * (1 + 3 * gC * (x * x))| ≤ 3 * |u| := by
    rw [hu, abs_mul, abs_mul (gK * x), mul_left_comm 3 |gK * x|]
    refine mul_le_mul_of_nonneg_left ?_ (abs_nonneg (gK * x))
    have h0 : 0 ≤ gC * (x * x) := mul_nonneg gC_pos.le (mul_self_nonneg x)
    rw [abs_of_nonneg (by nlinarith), abs_of_nonneg (by nlinarith)]; nlinarith
  have hd : 0 < 1 - Real.tanh u ^ 2 := by nlinarith
  have hb := abs_mul_sech_sq u
  have hq : |gK * x * (1 + 3 * gC * (x * x)) * (1 - Real.tanh u ^ 2)| ≤ 3 / 2 := by
    rw [abs_mul] at hb ⊢
    nlinarith [abs_of_pos hd]
  have he : factor x = 1 / 2 * (1 + Real.tanh u) + 1 / 2 * (gK * x * (1 + 3 * gC * (x * x)) * (1 - Real.tanh u ^ 2)) := by
    rw [factor, ← hu]; ring
  rw [he]
  rw [abs_le] at hq ⊢
  constructor <;> nlinarith

/-! ### The extended reals -/

/-- The constants the programs write, as reals. -/
theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

/-- The kernel's factor over the extended reals, as the program writes it. -/
def factorK (ys ylin third x : EReal) : EReal :=
  (Ideal.ofBits .f32 0x3F800000#32 + Ideal.tanh (x * ys * (x * ys * (x * ys) + ylin)))
    * (Ideal.ofBits .f32 0x3F000000#32
      + Ideal.ofBits .f32 0x3FC00000#32 * (x * ys * (x * ys * (x * ys) + third))
        * (Ideal.ofBits .f32 0x3F800000#32 - Ideal.tanh (x * ys * (x * ys * (x * ys) + ylin))))

/-- The reference's factor over the extended reals, as the program writes it. -/
def factorR (gk gc g3c x : EReal) : EReal :=
  Ideal.ofBits .f32 0x3F000000#32
      * (Ideal.ofBits .f32 0x3F800000#32 + Ideal.tanh (gk * x * (Ideal.ofBits .f32 0x3F800000#32 + gc * (x * x))))
    + Ideal.ofBits .f32 0x3F000000#32 * x
        * (Ideal.ofBits .f32 0x3F800000#32
          - Ideal.tanh (gk * x * (Ideal.ofBits .f32 0x3F800000#32 + gc * (x * x)))
            * Ideal.tanh (gk * x * (Ideal.ofBits .f32 0x3F800000#32 + gc * (x * x))))
        * gk * (Ideal.ofBits .f32 0x3F800000#32 + g3c * (x * x))

/-- The factor at an extended real: 1 at `+∞` and 0 at `−∞`. -/
def factorE : EReal → ℝ
  | ⊥ => 0
  | ⊤ => 1
  | (r : ℝ) => factor r

theorem factorE_bot : factorE ⊥ = 0 := rfl

theorem factorE_top : factorE ⊤ = 1 := rfl

/-- `1 − 1` is 0 in the extended reals, in the three spellings the factors meet. -/
theorem one_sub_one : (1 : EReal) - 1 = 0 := by
  rw [← EReal.coe_one, ← EReal.coe_sub, sub_self, EReal.coe_zero]

theorem one_add_neg_one : (1 : EReal) + -1 = 0 := by rw [← sub_eq_add_neg, one_sub_one]

theorem factorE_bound (x : EReal) : |factorE x| ≤ 2 := by
  induction x using EReal.rec with
  | bot => simp [factorE_bot]
  | top => simp [factorE_top]
  | coe r => exact factor_bound r

theorem factorR_eq (x : EReal) :
    factorR (gK : EReal) (gC : EReal) ((3 * gC : ℝ) : EReal) x = (factorE x : EReal) := by
  unfold factorR
  rw [ofBits_one, ofBits_half]
  induction x using EReal.rec with
  | bot =>
    have e1 : (gK : EReal) * ⊥ = ⊥ := EReal.coe_mul_bot_of_pos gK_pos
    have e2 : (gC : EReal) * ⊤ = ⊤ := EReal.coe_mul_top_of_pos gC_pos
    have e3 : ((3 * gC : ℝ) : EReal) * ⊤ = ⊤ := EReal.coe_mul_top_of_pos (mul_pos three_pos gC_pos)
    have e4 : ((1 / 2 : ℝ) : EReal) * ⊥ = ⊥ := EReal.coe_mul_bot_of_pos (by norm_num)
    rw [EReal.bot_mul_bot, e1, e2, e3, EReal.coe_add_top, EReal.bot_mul_top, Ideal.tanh_bot, e4]
    have e5 : ((1 : ℝ) : EReal) - (-1) * (-1) = 0 := by
      rw [neg_mul_neg, mul_one, EReal.coe_one, one_sub_one]
    have e6 : ((1 : ℝ) : EReal) + -1 = 0 := by rw [EReal.coe_one, one_add_neg_one]
    rw [e5, e6, factorE_bot]; simp
  | top =>
    have e1 : (gK : EReal) * ⊤ = ⊤ := EReal.coe_mul_top_of_pos gK_pos
    have e2 : (gC : EReal) * ⊤ = ⊤ := EReal.coe_mul_top_of_pos gC_pos
    have e3 : ((3 * gC : ℝ) : EReal) * ⊤ = ⊤ := EReal.coe_mul_top_of_pos (mul_pos three_pos gC_pos)
    have e4 : ((1 / 2 : ℝ) : EReal) * ⊤ = ⊤ := EReal.coe_mul_top_of_pos (by norm_num)
    rw [EReal.top_mul_top, e1, e2, e3, EReal.coe_add_top, EReal.top_mul_top, Ideal.tanh_top, e4]
    have e5 : ((1 : ℝ) : EReal) - 1 * 1 = 0 := by
      rw [mul_one, EReal.coe_one, one_sub_one]
    rw [e5, mul_zero, zero_mul, zero_mul, add_zero, ← EReal.coe_one, ← EReal.coe_add, ← EReal.coe_mul]
    rw [factorE_top]; norm_num
  | coe r =>
    simp only [← EReal.coe_mul, ← EReal.coe_add, ← EReal.coe_sub, Ideal.tanh_coe]
    rfl

theorem factorK_eq (x : EReal) :
    factorK ((rho * gK : ℝ) : EReal) ((1 / rho : ℝ) : EReal) ((1 / (3 * rho) : ℝ) : EReal) x = (factorE x : EReal) := by
  unfold factorK
  rw [ofBits_one, ofBits_half, ofBits_three_halves]
  have hp : 0 < rho * gK := mul_pos rho_pos gK_pos
  induction x using EReal.rec with
  | bot =>
    rw [EReal.bot_mul_coe_of_pos hp, EReal.bot_mul_bot, EReal.top_add_coe, EReal.bot_mul_top, Ideal.tanh_bot]
    have e6 : ((1 : ℝ) : EReal) + -1 = 0 := by rw [EReal.coe_one, one_add_neg_one]
    rw [e6, zero_mul, factorE_bot]; simp
  | top =>
    rw [EReal.top_mul_coe_of_pos hp, EReal.top_mul_top, EReal.top_add_coe, EReal.top_mul_top, Ideal.tanh_top]
    have e5 : ((1 : ℝ) : EReal) - 1 = 0 := by rw [EReal.coe_one, one_sub_one]
    rw [e5, mul_zero, add_zero, ← EReal.coe_one, ← EReal.coe_add, ← EReal.coe_mul]
    rw [factorE_top]; norm_num
  | coe r =>
    simp only [← EReal.coe_mul, ← EReal.coe_add, ← EReal.coe_sub, Ideal.tanh_coe]
    rw [factor_eq]; rfl

end Cert.Mx

end
-- ==== Proof.Mx.Exponent.lean ====
module

public import Idealize.ShloMosaic.PureOps
public import Idealize.ShloMosaic.Lib.IdealHost
public import Mathlib.Analysis.SpecialFunctions.Pow.Real

/-!
# The exponent of a block's scale, two ways

The kernel finds the biased exponent of `s ≥ 0` by an exact binary search over the powers of two that are floats
(`search`), and makes the reciprocal scale by writing an exponent field (`kernelInv`). The reference takes
`⌊log s / log 2⌋ + 1`, clamped below at −126, and the power of two `exp2 (-e)`. `kernelExp_eq` and `refExp_eq` say that
for every real `0 ≤ s < 2^122` both exponents are the integer `expo s`, between −126 and 122; `inverses_agree` says
that the two reciprocals are then one real number; `exponents_agree` puts these together for a block's largest
absolute value.
-/

@[expose] public section

noncomputable section

namespace Cert.Mx

open Idealize.ShloMosaic

/-! ### A float whose pattern is an exponent field alone -/

/-- The pattern with exponent field `E` and nothing else denotes `2^(E − 127)`. -/
theorem ofBits_shift {E : ℕ} (h0 : 0 < E) (h1 : E < 255) :
    Ideal.ofBits .f32 (BitVec.ofNat 32 E <<< 23) = (((2 : ℝ) ^ ((E : ℤ) - 127) : ℝ) : EReal) := by
  have ht : (BitVec.ofNat 32 E <<< 23).toNat = E * 2 ^ 23 := by
    rw [BitVec.toNat_shiftLeft, BitVec.toNat_ofNat, Nat.shiftLeft_eq]; omega
  have a1 : ((BitVec.ofNat 32 E <<< 23).extractLsb' 31 1 == 1#1) = false := by
    rw [beq_eq_false_iff_ne]; intro h
    have := congrArg BitVec.toNat h
    rw [BitVec.extractLsb'_toNat, ht, Nat.shiftRight_eq_div_pow] at this
    simp at this; omega
  have a2 : ((BitVec.ofNat 32 E <<< 23).extractLsb' 23 8).toNat = E := by
    rw [BitVec.extractLsb'_toNat, ht, Nat.shiftRight_eq_div_pow]; omega
  have a3 : ((BitVec.ofNat 32 E <<< 23).extractLsb' 0 23).toNat = 0 := by
    rw [BitVec.extractLsb'_toNat, ht, Nat.shiftRight_eq_div_pow]; omega
  show Ideal.ieee 8 23 (BitVec.ofNat 32 E <<< 23) = _
  unfold Ideal.ieee
  simp only [show 8 + 23 = 31 from rfl, a1, a2, a3]
  rw [if_neg (by omega), if_neg (by omega)]
  have hz : ((E : ℤ) - 127) = 23 + ((E : ℤ) - (2 ^ (8 - 1) - 1) - 23) := by norm_num
  rw [hz, zpow_add₀ two_ne_zero]
  refine congrArg (fun r : ℝ => (r : EReal)) ?_
  push_cast
  norm_num

/-- The pattern with exponent field 0 denotes 0. -/
theorem ofBits_shift_zero : Ideal.ofBits .f32 (BitVec.ofNat 32 0 <<< 23) = 0 := by
  show Ideal.ieee 8 23 (BitVec.ofNat 32 0 <<< 23) = 0
  simp [Ideal.ieee]

/-- The pattern with exponent field 255 denotes `+∞`. -/
theorem ofBits_shift_top : Ideal.ofBits .f32 (BitVec.ofNat 32 255 <<< 23) = ⊤ := by
  show Ideal.ieee 8 23 (BitVec.ofNat 32 255 <<< 23) = ⊤
  simp [Ideal.ieee]

/-! ### The binary search -/

/-- One step of the search: add `k` to the exponent field where the float with the larger field is still at most `s`. -/
def searchStep (s : EReal) (b k : BitVec 32) : BitVec 32 :=
  Scalar.select (Ideal.cmp .oge s (Ideal.ofBits .f32 (IntOp.shli .vector (IntOp.addi b k) 23#32))) (IntOp.addi b k) b

/-- The search: eight steps, from the largest. -/
def search (s : EReal) : BitVec 32 :=
  searchStep s (searchStep s (searchStep s (searchStep s (searchStep s (searchStep s (searchStep s (searchStep s
    0#32 128#32) 64#32) 32#32) 16#32) 8#32) 4#32) 2#32) 1#32

/-- One step in numbers, for an `s` whose comparisons with the powers are those of the field `B`. -/
theorem searchStep_eq {s : EReal} {B : ℕ}
    (hB : ∀ E : ℕ, E ≤ 255 → (Ideal.ofBits .f32 (BitVec.ofNat 32 E <<< 23) ≤ s ↔ E ≤ B)) {n k : ℕ} (hnk : n + k ≤ 255) :
    searchStep s (BitVec.ofNat 32 n) (BitVec.ofNat 32 k) = BitVec.ofNat 32 (if n + k ≤ B then n + k else n) := by
  have ha : IntOp.addi (BitVec.ofNat 32 n) (BitVec.ofNat 32 k) = BitVec.ofNat 32 (n + k) :=
    (BitVec.ofNat_add n k).symm
  have hs : IntOp.shli .vector (BitVec.ofNat 32 (n + k)) 23#32 = BitVec.ofNat 32 (n + k) <<< 23 := by
    unfold IntOp.shli; rw [if_pos (by decide)]; rfl
  unfold searchStep
  rw [ha, hs]
  by_cases h : n + k ≤ B
  · rw [if_pos h]
    have : Ideal.cmp .oge s (Ideal.ofBits .f32 (BitVec.ofNat 32 (n + k) <<< 23)) = 1#1 := by
      simp [Ideal.cmp, (hB _ hnk).mpr h]
    rw [this]; rfl
  · rw [if_neg h]
    have : Ideal.cmp .oge s (Ideal.ofBits .f32 (BitVec.ofNat 32 (n + k) <<< 23)) = 0#1 := by
      simp [Ideal.cmp, mt (hB _ hnk).mp h]
    rw [this]; rfl

/-- The search finds `B`. -/
theorem search_eq {s : EReal} {B : ℕ} (hB255 : B ≤ 255)
    (hB : ∀ E : ℕ, E ≤ 255 → (Ideal.ofBits .f32 (BitVec.ofNat 32 E <<< 23) ≤ s ↔ E ≤ B)) :
    search s = BitVec.ofNat 32 B := by
  have step : ∀ {n k : ℕ} (b : BitVec 32), b = BitVec.ofNat 32 n → n ≤ B → B < n + 2 * k → n + 2 * k ≤ 256 → 0 < k →
      ∃ n', searchStep s b (BitVec.ofNat 32 k) = BitVec.ofNat 32 n' ∧ n' ≤ B ∧ B < n' + k ∧ n' + k ≤ 256 := by
    intro n k b hb h1 h2 h3 h4
    refine ⟨if n + k ≤ B then n + k else n, ?_, ?_, ?_, ?_⟩
    · rw [hb]; exact searchStep_eq hB (by omega)
    all_goals split <;> omega
  obtain ⟨n1, e1, l1, u1, v1⟩ := step (n := 0) (k := 128) 0#32 rfl (by omega) (by omega) (by omega) (by omega)
  obtain ⟨n2, e2, l2, u2, v2⟩ := step (k := 64) _ e1 l1 (by omega) (by omega) (by omega)
  obtain ⟨n3, e3, l3, u3, v3⟩ := step (k := 32) _ e2 l2 (by omega) (by omega) (by omega)
  obtain ⟨n4, e4, l4, u4, v4⟩ := step (k := 16) _ e3 l3 (by omega) (by omega) (by omega)
  obtain ⟨n5, e5, l5, u5, v5⟩ := step (k := 8) _ e4 l4 (by omega) (by omega) (by omega)
  obtain ⟨n6, e6, l6, u6, v6⟩ := step (k := 4) _ e5 l5 (by omega) (by omega) (by omega)
  obtain ⟨n7, e7, l7, u7, v7⟩ := step (k := 2) _ e6 l6 (by omega) (by omega) (by omega)
  obtain ⟨n8, e8, l8, u8, v8⟩ := step (k := 1) _ e7 l7 (by omega) (by omega) (by omega)
  have : n8 = B := by omega
  exact e8.trans (by rw [this])

/-! ### The integer both exponents are -/

/-- The exponent of a nonnegative real: `⌊log₂ s⌋ + 1`, at least −126, and 0 at 0. -/
def expo (s : ℝ) : ℤ := if s = 0 then 0 else max (⌊Real.log s / Real.log 2⌋ + 1) (-126)

theorem le_floor_log_iff {s : ℝ} (hs : 0 < s) (z : ℤ) : z ≤ ⌊Real.log s / Real.log 2⌋ ↔ (2 : ℝ) ^ z ≤ s := by
  have h2 : 0 < Real.log 2 := Real.log_pos one_lt_two
  rw [Int.le_floor, le_div_iff₀ h2, ← Real.log_zpow, Real.log_le_log_iff (zpow_pos two_pos z) hs]

/-- Below `2^122` the exponent is at most 122. -/
theorem expo_bounds {s : ℝ} (h0 : 0 ≤ s) (h1 : s < 2 ^ (122 : ℕ)) : -126 ≤ expo s ∧ expo s ≤ 122 := by
  unfold expo
  split
  · omega
  · rename_i hne
    have hs : 0 < s := lt_of_le_of_ne h0 (Ne.symm hne)
    have : ¬ (122 : ℤ) ≤ ⌊Real.log s / Real.log 2⌋ := by
      rw [le_floor_log_iff hs, not_le]; exact_mod_cast h1
    omega

/-- The biased exponent of a nonnegative real below `2^122`: what the search finds. -/
theorem search_real {s : ℝ} (h0 : 0 < s) (h1 : s < 2 ^ (122 : ℕ)) :
    search (s : EReal) = BitVec.ofNat 32 (expo s + 126).toNat := by
  have hb := expo_bounds h0.le h1
  have he : expo s = max (⌊Real.log s / Real.log 2⌋ + 1) (-126) := by unfold expo; rw [if_neg h0.ne']
  refine search_eq (by omega) fun E hE => ?_
  rcases Nat.eq_zero_or_pos E with rfl | hpos
  · rw [ofBits_shift_zero]
    exact iff_of_true (EReal.coe_nonneg.mpr h0.le) (Nat.zero_le _)
  · rcases Nat.lt_or_ge E 255 with hlt | hge
    · rw [ofBits_shift hpos hlt, EReal.coe_le_coe_iff, ← le_floor_log_iff h0]
      omega
    · obtain rfl : E = 255 := by omega
      rw [ofBits_shift_top]
      refine iff_of_false (not_le.mpr (EReal.coe_lt_top s)) (by omega)

/-! ### The two programs' exponents -/

/-- The kernel's exponent. -/
def kernelExp (s : EReal) : BitVec 32 :=
  Scalar.select (Ideal.cmp .oeq s (Ideal.ofBits .f32 0x00000000#32)) 0#32 (IntOp.subi (search s) 126#32)

/-- The reference's exponent, of the block's largest absolute value `a` and its scale `s`. -/
def refExp (a s : EReal) : BitVec 32 :=
  Ideal.fptosi 32 (Scalar.select (Ideal.cmp .oeq a (Ideal.ofBits .f32 0x00000000#32)) (Ideal.ofBits .f32 0x00000000#32)
    (max (Ideal.liftRound Int.floor (Ideal.div (Ideal.log s) (Ideal.log (Ideal.ofBits .f32 0x40000000#32)))
      + Ideal.ofBits .f32 0x3F800000#32) (Ideal.ofBits .f32 0xC2FC0000#32)))

theorem kernelExp_eq {s : ℝ} (h0 : 0 ≤ s) (h1 : s < 2 ^ (122 : ℕ)) :
    kernelExp (s : EReal) = BitVec.ofInt 32 (expo s) := by
  unfold kernelExp
  rw [Ideal.ofBits_zero_f32]
  by_cases h : s = 0
  · subst h
    have : Ideal.cmp .oeq ((0 : ℝ) : EReal) 0 = 1#1 := by simp [Ideal.cmp]
    rw [this]; simp [expo, Scalar.select]
  · have hc : Ideal.cmp .oeq (s : EReal) 0 = 0#1 := by simp [Ideal.cmp, h]
    have hb := expo_bounds h0 h1
    rw [hc, search_real (lt_of_le_of_ne h0 (Ne.symm h)) h1]
    show BitVec.ofNat 32 (expo s + 126).toNat - 126#32 = _
    apply BitVec.eq_of_toInt_eq
    rw [BitVec.toInt_sub, BitVec.toInt_ofInt, BitVec.toInt_ofNat']
    have : (126#32).toInt = 126 := by decide
    rw [this, Int.toNat_of_nonneg (by omega)]
    simp only [Int.bmod_def]
    omega

theorem ofBits_two : Ideal.ofBits .f32 0x40000000#32 = ((2 : ℝ) : EReal) := by
  simp [Ideal.ofBits, Ideal.ieee, -EReal.coe_mul]; norm_num

theorem ofBits_neg126 : Ideal.ofBits .f32 0xC2FC0000#32 = ((-126 : ℝ) : EReal) := by
  simp [Ideal.ofBits, Ideal.ieee, -EReal.coe_mul]; norm_num

/-- Converting a whole number within the clamp's range to a 32-bit integer. -/
theorem fptosi_int {z : ℤ} (h0 : -126 ≤ z) (h1 : z ≤ 122) : Ideal.fptosi 32 ((z : ℝ) : EReal) = BitVec.ofInt 32 z := by
  rw [Ideal.fptosi, Ideal.toIntClamped_coe]
  congr 1
  have : (if (0 : ℝ) ≤ (z : ℝ) then ⌊(z : ℝ)⌋ else ⌈(z : ℝ)⌉) = z := by simp
  rw [this]
  norm_num; omega

theorem refExp_eq {a s : ℝ} (has : a = 0 ↔ s = 0) (h0 : 0 ≤ s) (h1 : s < 2 ^ (122 : ℕ)) :
    refExp (a : EReal) (s : EReal) = BitVec.ofInt 32 (expo s) := by
  have hb := expo_bounds h0 h1
  rw [← fptosi_int hb.1 hb.2]
  unfold refExp
  congr 1
  rw [Ideal.ofBits_zero_f32, ofBits_two, ofBits_neg126, Ideal.ofBits_one_f32]
  by_cases h : s = 0
  · have : Ideal.cmp .oeq (a : EReal) 0 = 1#1 := by simp [Ideal.cmp, has.mpr h]
    rw [this]; simp [expo, Scalar.select, h]
  · have hc : Ideal.cmp .oeq (a : EReal) 0 = 0#1 := by simp [Ideal.cmp, mt has.mp h]
    have hs : 0 < s := lt_of_le_of_ne h0 (Ne.symm h)
    rw [hc]
    show max _ _ = _
    rw [Ideal.log_coe, if_neg (not_le.mpr hs), Ideal.log_coe, if_neg (by norm_num),
      Ideal.div_coe (Real.log_pos one_lt_two).ne', ← EReal.coe_mul, mul_one_div]
    show max (((⌊Real.log s / Real.log 2⌋ : ℝ) : EReal) + 1) _ = _
    rw [← EReal.coe_one, ← EReal.coe_add, ← EReal.coe_strictMono.monotone.map_max]
    congr 1
    unfold expo; rw [if_neg h]; push_cast; rfl

/-! ### The two reciprocals -/

/-- The kernel's reciprocal of the scale. -/
def kernelInv (e : BitVec 32) : EReal := Ideal.ofBits .f32 (IntOp.shli .vector (IntOp.subi 127#32 e) 23#32)

/-- The reference's. -/
def refInv (e : BitVec 32) : EReal := Ideal.exp2 (Ideal.ofBits .f32 0x00000000#32 - ((e.toInt : ℝ) : EReal))

theorem inverses_agree {z : ℤ} (h0 : -126 ≤ z) (h1 : z ≤ 122) :
    kernelInv (BitVec.ofInt 32 z) = refInv (BitVec.ofInt 32 z) := by
  have hk : IntOp.subi 127#32 (BitVec.ofInt 32 z) = BitVec.ofNat 32 (127 - z).toNat := by
    show 127#32 - BitVec.ofInt 32 z = _
    apply BitVec.eq_of_toInt_eq
    have : (127#32).toInt = 127 := by decide
    rw [BitVec.toInt_sub, BitVec.toInt_ofInt, this, BitVec.toInt_ofNat', Int.toNat_of_nonneg (by omega)]
    simp only [Int.bmod_def]
    omega
  have ht : (BitVec.ofInt 32 z).toInt = z := by
    rw [BitVec.toInt_ofInt]; simp only [Int.bmod_def]; omega
  unfold kernelInv refInv
  rw [hk, ht, Ideal.ofBits_zero_f32]
  have hs : IntOp.shli .vector (BitVec.ofNat 32 (127 - z).toNat) 23#32 = BitVec.ofNat 32 (127 - z).toNat <<< 23 := by
    unfold IntOp.shli; rw [if_pos (by decide)]; rfl
  rw [hs, ofBits_shift (by omega) (by omega), zero_sub, ← EReal.coe_neg, Ideal.exp2_coe]
  congr 1
  have : (((127 - z).toNat : ℕ) : ℤ) - 127 = -z := by omega
  rw [this]
  show _ = (2 : ℝ) ^ (-(z : ℝ))
  rw [← Real.rpow_intCast]; push_cast; rfl

/-! ### From a block's largest absolute value -/

/-- The f32 nearest 1/448, as the programs write it. -/
def scale448 : ℝ := 9586981 / 2 ^ 32

theorem ofBits_scale448 : Ideal.ofBits .f32 0x3B124925#32 = (scale448 : EReal) := by
  simp [Ideal.ofBits, Ideal.ieee, -EReal.coe_mul, scale448]; norm_num

/-- For a block whose largest absolute value is a real below `2^130`, both programs have one exponent and one
    reciprocal of the scale. -/
theorem exponents_agree {a : ℝ} (h0 : 0 ≤ a) (h1 : a < 2 ^ (130 : ℕ)) :
    kernelExp ((a : EReal) * Ideal.ofBits .f32 0x3B124925#32)
        = refExp (a : EReal) ((a : EReal) * Ideal.ofBits .f32 0x3B124925#32)
      ∧ kernelInv (kernelExp ((a : EReal) * Ideal.ofBits .f32 0x3B124925#32))
        = refInv (refExp (a : EReal) ((a : EReal) * Ideal.ofBits .f32 0x3B124925#32)) := by
  rw [ofBits_scale448, ← EReal.coe_mul]
  have hs0 : 0 ≤ a * scale448 := mul_nonneg h0 (by unfold scale448; norm_num)
  have hs1 : a * scale448 < 2 ^ (122 : ℕ) := by
    have : scale448 < 1 / 2 ^ 8 := by unfold scale448; norm_num
    have hp : 0 < scale448 := by unfold scale448; norm_num
    nlinarith
  have hz : a = 0 ↔ a * scale448 = 0 := by
    rw [mul_eq_zero, or_iff_left (by unfold scale448; norm_num)]
  have hb := expo_bounds hs0 hs1
  rw [kernelExp_eq hs0 hs1, refExp_eq hz hs0 hs1]
  exact ⟨rfl, inverses_agree hb.1 hb.2⟩

end Cert.Mx

end
-- ==== Proof.Mx.Read.lean ====
module

public import proofs.«01_k».proof.Proof.Mx.Tile
public import proofs.«01_k».proof.Proof.Mx.Gelu
public import proofs.«01_k».proof.Proof.Mx.Exponent
public import Idealize.ShloMosaic.Lib.Pointwise

/-!
# The chunk's computation read at an index, over the extended reals
-/

@[expose] public section

set_option maxRecDepth 16384

noncomputable section

namespace Cert.KernelIdeal.Mx

open Idealize.ShloMosaic Cert.KernelIdeal.Gen Cert.Mx

/-- The kernel's factor with its named constants. -/
def facK (x : EReal) : EReal :=
  factorK (Named.named (F := Ideal) κ "y_scale" (φ := .f32) 0x3EA88D5C#32) (Named.named (F := Ideal) κ "y_lin" (φ := .f32) 0x401B1D9B#32)
    (Named.named (F := Ideal) κ "y_lin_third" (φ := .f32) 0x3F4ED224#32) x

theorem tileD_apply (g x : Vec Ideal S256x256 .bf16) (y : S256x256.Idx) :
    tileD (F := Ideal) g x y = g y * facK (x y) := rfl

theorem tileStep_apply (s : FVec Ideal S8x256 .f32) (b : IVec S8x256 32) (k : BitVec 32) (y : S8x256.Idx) :
    tileStep (F := Ideal) s b k y = searchStep (s y) (b y) k := rfl

theorem tileExp_apply (s : FVec Ideal S8x256 .f32) (y : S8x256.Idx) :
    tileExp (F := Ideal) s y = kernelExp (s y) := by
  unfold tileExp kernelExp search
  have h : ∀ t : IVec S8x256 32,
      select (cmpf (F := Ideal) .oeq s (broadcast S8x256 (Scalar.ofBits (F := Ideal) .f32 0x00000000#32))) (broadcast S8x256 0#32)
        (subi t (broadcast S8x256 126#32)) y
      = Scalar.select (Ideal.cmp .oeq (s y) (Ideal.ofBits .f32 0x00000000#32)) 0#32 (IntOp.subi (t y) 126#32) := fun _ => rfl
  rw [h]
  simp only [tileStep_apply]
  rfl

theorem tileScale_apply (s : FVec Ideal S8x256 .f32) (y : S8x256.Idx) :
    tileScale (F := Ideal) s y = IntOp.addi (kernelExp (s y)) 127#32 := by
  rw [← tileExp_apply]; rfl

theorem tileInv_apply (s : FVec Ideal S8x256 .f32) (y : S8x256.Idx) :
    tileInv (F := Ideal) s y = kernelInv (kernelExp (s y)) := by
  rw [← tileExp_apply]; rfl

/-- The largest absolute value of 32 numbers, as both programs take it. -/
def amax (f : Fin 32 → EReal) : EReal :=
  Finset.univ.fold max (Ideal.ofBits .f32 0xFF800000#32) fun k => max (f k) (-f k)

/-- The scale of a group with the largest absolute value `a`. -/
def scaleOf (a : EReal) : EReal := a * Ideal.ofBits .f32 0x3B124925#32

theorem tileMax_apply (a : FVec Ideal S256x256 .f32) (h : Fin 8) (q : Fin 256) :
    tileMax (F := Ideal) a (ix2 h q) = scaleOf (Finset.univ.fold max (Ideal.ofBits .f32 0xFF800000#32) fun k : Fin 32 =>
      a (ix2 (⟨h.val * 32 + k.val, by omega⟩ : Fin 256) q)) := by
  pointwise [tileMax, scaleOf]

theorem tileColMax_apply (d : FVec Ideal S256x256 .f32) (h : Fin 8) (q : Fin 256) :
    tileColMax (F := Ideal) d (ix2 h q) = scaleOf (amax fun k => d (ix2 (⟨h.val * 32 + k.val, by omega⟩ : Fin 256) q)) := by
  unfold tileColMax
  rw [tileMax_apply]
  rfl

theorem tileRowMax_apply (d : FVec Ideal S256x256 .f32) (h : Fin 8) (q : Fin 256) :
    tileRowMax (F := Ideal) d (ix2 h q) = scaleOf (amax fun k => d (ix2 q (⟨h.val * 32 + k.val, by omega⟩ : Fin 256))) := by
  unfold tileRowMax
  rw [tileMax_apply]
  pointwise [amax]
  rfl

theorem tileBias_apply (old : Vec Ideal S8x256 .f32) (d : FVec Ideal S256x256 .f32) (h : Fin 8) (q : Fin 256) :
    tileBias (F := Ideal) old d (ix2 h q) = old (ix2 h q) + ∑ k : Fin 32, d (ix2 (⟨k.val * 8 + h.val, by omega⟩ : Fin 256) q) := by
  pointwise [tileBias]

/-- A number quantized with the reciprocal scale `r`. -/
def codeOf (d r : EReal) : EReal :=
  min (Ideal.ofBits .f32 0x43E00000#32) (max (Ideal.ofBits .f32 0xC3E00000#32) (d * r))

theorem tileColCode_apply (d : FVec Ideal S256x256 .f32) (p q : Fin 256) :
    tileColCode (F := Ideal) d (ix2 p q) = codeOf (d (ix2 q p))
      (tileInv (F := Ideal) (tileColMax (F := Ideal) d) (ix2 (⟨q.val / 32, by omega⟩ : Fin 8) p)) := by
  pointwise [tileColCode, codeOf]

/-- The word of the one-hot matrix: whether the column lies in the row's group of 32. -/
theorem oneHot_word : ∀ (h : Fin 8) (q : Fin 256),
    BitVec.setWidth 32
      (IntOp.cmpi CmpIPredicate.eq
        (Scalar.select
          (IntOp.andi
            (IntOp.cmpi CmpIPredicate.ne
              (IntOp.subi (BitVec.setWidth 32 (IntOp.cmpi CmpIPredicate.sgt (BitVec.ofNat 32 q.val) 0#32))
                (BitVec.setWidth 32 (IntOp.cmpi CmpIPredicate.slt (BitVec.ofNat 32 q.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 q.val) 32#32) 0#32))
          (IntOp.subi (IntOp.divsi ArithUnit.vector (BitVec.ofNat 32 q.val) 32#32) 1#32)
          (IntOp.divsi ArithUnit.vector (BitVec.ofNat 32 q.val) 32#32))
        (BitVec.ofNat 32 h.val))
      = if q.val / 32 = h.val then 1#32 else 0#32 := by
  decide +kernel

theorem oneHot_apply (h : Fin 8) (q : Fin 256) :
    k0_pay3 (F := Ideal) (ix2 h q) = if q.val / 32 = h.val then (1 : EReal) else 0 := by
  pointwise [k0_pay3]
  rw [oneHot_word]
  split
  · show (((1#32).toInt : ℝ) : EReal) = 1
    simp
  · show (((0#32).toInt : ℝ) : EReal) = 0
    simp

theorem tileRowCode_apply (d : FVec Ideal S256x256 .f32) (p q : Fin 256) :
    tileRowCode (F := Ideal) d (ix2 p q) = codeOf (d (ix2 p q))
      (tileInv (F := Ideal) (tileRowMax (F := Ideal) d) (ix2 (⟨q.val / 32, by omega⟩ : Fin 8) p)) := by
  pointwise [tileRowCode, codeOf]
  refine congrArg (fun z => min _ (max _ (d (ix2 p q) * z))) ?_
  have e : ∀ x : Fin 8, tileInv (F := Ideal) (tileRowMax (F := Ideal) d) (ix2 x p) * k0_pay3 (F := Ideal) (ix2 x q)
      = if (⟨q.val / 32, by omega⟩ : Fin 8) = x then tileInv (F := Ideal) (tileRowMax (F := Ideal) d) (ix2 x p) else 0 := by
    intro x
    rw [oneHot_apply]
    by_cases hx : q.val / 32 = x.val
    · rw [if_pos hx, if_pos (Fin.ext hx)]; exact mul_one _
    · rw [if_neg hx, if_neg fun he => hx (congrArg Fin.val he)]; exact mul_zero _
  simp only [e]
  rw [Finset.sum_ite_eq, if_pos (Finset.mem_univ _)]

end Cert.KernelIdeal.Mx

end
-- ==== Proof.Mx.Blocks.lean ====
module

public import proofs.«01_k».proof.Proof.Mx.Pieces
public import proofs.«01_k».proof.Proof.Mx.Read
public import Idealize.ShloMosaic.Lib.Pipeline.ValueKit

/-!
# The output blocks read at an index

Twelve stores side by side (`canon_cols`) or one above another (`canon_rows`) read back at an index are the store the
index lies in; the accumulator's block (`acc2_apply`, `piece2_apply`) is what it held plus the sum of the block's rows,
every eighth.
-/

@[expose] public section

set_option maxRecDepth 16384

noncomputable section

namespace Cert.KernelIdeal.Mx

open Idealize.ShloMosaic Cert.KernelIdeal.Gen Cert.Mx

theorem canon_cols {n : ℕ} {e : EltTy} (T : Fin 12 → (⟨2, ![n, 256]⟩ : Shape).Idx → Elt Ideal e) (p : Fin n) (j : Fin 3072) :
    View.canon (chunks.map fun k => (⟨Rect.unit (s := ⟨2, ![n, 3072]⟩) ![0, 256 * k.val] ![n, 256] (inbCol n k), T k⟩ :
        View.Piece (Elt Ideal) ⟨2, ![n, 3072]⟩ e)) (ix2 p j)
      = T ⟨j.val / 256, by omega⟩ (ix2 p ⟨j.val % 256, by omega⟩) := by
  refine View.canon_apply_of_pieces
    (fun y : (⟨2, ![n, 3072]⟩ : Shape).Idx => T ⟨(y 1).val / 256, by have : (y 1).val < 3072 := (y 1).isLt; omega⟩
      (ix2 ⟨(y 0).val, (y 0).isLt⟩ (⟨(y 1).val % 256, by omega⟩ : Fin 256))) _ ?_ _ ?_
  · intro q hq x
    obtain ⟨k, _, rfl⟩ := List.mem_map.mp hq
    have hx1 : (x 1).val < 256 := (x 1).isLt
    have e0 : (((Rect.unit (s := ⟨2, ![n, 3072]⟩) ![0, 256 * k.val] ![n, 256] (inbCol n k)).emb x) 0).val = (x 0).val := by
      rw [ValueKit.rect_emb_unit_val]; exact Nat.zero_add _
    have e1 : (((Rect.unit (s := ⟨2, ![n, 3072]⟩) ![0, 256 * k.val] ![n, 256] (inbCol n k)).emb x) 1).val
        = 256 * k.val + (x 1).val := by
      rw [ValueKit.rect_emb_unit_val]; rfl
    show T k x = _
    congr 1
    · congr 1
      exact Fin.ext (by show k.val = _ / 256; rw [e1]; omega)
    · funext a
      match a with
      | 0 => exact Fin.ext e0.symm
      | 1 => exact Fin.ext (by show (x 1).val = _ % 256; rw [e1]; omega)
  · refine ⟨_, List.mem_map.mpr ⟨⟨j.val / 256, by omega⟩, mem_chunks _, rfl⟩, ?_⟩
    refine (Rect.mem_set_unit (inb := inbCol n _)).mpr fun a => ?_
    match a with
    | 0 => exact ⟨Nat.zero_le _, by show p.val < 0 + n; omega⟩
    | 1 => exact ⟨by show 256 * (j.val / 256) ≤ j.val; omega, by show j.val < 256 * (j.val / 256) + 256; omega⟩

theorem canon_rows {n : ℕ} {e : EltTy} (T : Fin 12 → (⟨2, ![n, 256]⟩ : Shape).Idx → Elt Ideal e) (hn : 0 < n) (p : Fin (n * 12))
    (j : Fin 256) :
    View.canon (chunks.map fun k => (⟨Rect.unit (s := ⟨2, ![n * 12, 256]⟩) ![n * k.val, 0] ![n, 256] (inbRow n k), T k⟩ :
        View.Piece (Elt Ideal) ⟨2, ![n * 12, 256]⟩ e)) (ix2 p j)
      = T ⟨p.val / n, Nat.div_lt_of_lt_mul p.isLt⟩ (ix2 ⟨p.val % n, Nat.mod_lt _ hn⟩ j) := by
  refine View.canon_apply_of_pieces
    (fun y : (⟨2, ![n * 12, 256]⟩ : Shape).Idx => T ⟨(y 0).val / n, Nat.div_lt_of_lt_mul (y 0).isLt⟩
      (ix2 ⟨(y 0).val % n, Nat.mod_lt _ hn⟩ (⟨(y 1).val, (y 1).isLt⟩ : Fin 256))) _ ?_ _ ?_
  · intro q hq x
    obtain ⟨k, _, rfl⟩ := List.mem_map.mp hq
    have hx0 : (x 0).val < n := (x 0).isLt
    have e1 : (((Rect.unit (s := ⟨2, ![n * 12, 256]⟩) ![n * k.val, 0] ![n, 256] (inbRow n k)).emb x) 1).val = (x 1).val := by
      rw [ValueKit.rect_emb_unit_val]; exact Nat.zero_add _
    have e0 : (((Rect.unit (s := ⟨2, ![n * 12, 256]⟩) ![n * k.val, 0] ![n, 256] (inbRow n k)).emb x) 0).val
        = n * k.val + (x 0).val := by
      rw [ValueKit.rect_emb_unit_val]; rfl
    show T k x = _
    congr 1
    · congr 1
      exact Fin.ext (by show k.val = _ / n; rw [e0, Nat.mul_add_div hn, Nat.div_eq_of_lt hx0, Nat.add_zero])
    · funext a
      match a with
      | 0 => exact Fin.ext (by show (x 0).val = _ % n; rw [e0, Nat.mul_add_mod, Nat.mod_eq_of_lt hx0])
      | 1 => exact Fin.ext e1.symm
  · refine ⟨_, List.mem_map.mpr ⟨⟨p.val / n, Nat.div_lt_of_lt_mul p.isLt⟩, mem_chunks _, rfl⟩, ?_⟩
    refine (Rect.mem_set_unit (inb := inbRow n _)).mpr fun a => ?_
    match a with
    | 0 =>
      have h := Nat.div_add_mod p.val n
      have h' := Nat.mod_lt p.val hn
      exact ⟨by show n * (p.val / n) ≤ p.val; omega, by show p.val < n * (p.val / n) + n; omega⟩
    | 1 => exact ⟨Nat.zero_le _, by show j.val < 0 + 256; omega⟩

variable (d : Fin 12 → FVec Ideal S256x256 .f32)

theorem piece3_apply (p : Fin 256) (j : Fin 3072) :
    View.canon (chunks.map (piece3 (F := Ideal) d)) (ix2 p j)
      = tileRowCode (F := Ideal) (d ⟨j.val / 256, by omega⟩) (ix2 p ⟨j.val % 256, by omega⟩) :=
  canon_cols (n := 256) (e := .fp8e4m3) (fun k => tileRowCode (F := Ideal) (d k)) p j

theorem piece4_apply (p : Fin 96) (j : Fin 256) :
    View.canon (chunks.map (piece4 (F := Ideal) d)) (ix2 p j)
      = tileRowScale (F := Ideal) (d ⟨p.val / 8, by omega⟩) (ix2 (⟨p.val % 8, by omega⟩ : Fin 8) j) :=
  canon_rows (n := 8) (e := .i32) (fun k => tileRowScale (F := Ideal) (d k)) (by decide) p j

theorem piece5_apply (p : Fin 3072) (j : Fin 256) :
    View.canon (chunks.map (piece5 (F := Ideal) d)) (ix2 p j)
      = tileColCode (F := Ideal) (d ⟨p.val / 256, by omega⟩) (ix2 (⟨p.val % 256, by omega⟩ : Fin 256) j) :=
  canon_rows (n := 256) (e := .fp8e4m3) (fun k => tileColCode (F := Ideal) (d k)) (by decide) p j

theorem piece6_apply (p : Fin 8) (j : Fin 3072) :
    View.canon (chunks.map (piece6 (F := Ideal) d)) (ix2 p j)
      = tileColScale (F := Ideal) (d ⟨j.val / 256, by omega⟩) (ix2 p ⟨j.val % 256, by omega⟩) :=
  canon_cols (n := 8) (e := .i32) (fun k => tileColScale (F := Ideal) (d k)) p j

theorem rect2_emb (k : Fin 12) (p : Fin 8) (q : Fin 256) :
    (rect2 k).emb (ix2 p q) = ix2 p (⟨256 * k.val + q.val, by omega⟩ : Fin 3072) := by
  funext a
  match a with
  | 0 => exact Fin.ext ((ValueKit.rect_emb_unit_val _ _ _ _ _).trans (Nat.zero_add _))
  | 1 => exact Fin.ext ((ValueKit.rect_emb_unit_val _ _ _ _ _).trans rfl)

/-- The sum of every eighth row of a block, from row `p`. -/
def rowSum (p : Fin 8) (j : Fin 3072) : EReal :=
  ∑ k : Fin 32, d ⟨j.val / 256, by omega⟩ (ix2 (⟨k.val * 8 + p.val, by omega⟩ : Fin 256) (⟨j.val % 256, by omega⟩ : Fin 256))

theorem piece2_apply (prev : Vec Ideal S8x3072 .f32) (p : Fin 8) (j : Fin 3072) :
    View.canon (chunks.map (piece2 (F := Ideal) (fun k => View.ld prev (rect2 k)) d)) (ix2 p j)
      = prev (ix2 p j) + rowSum d p j := by
  refine (canon_cols (n := 8) (e := .f32) (fun k => tileBias (F := Ideal) (View.ld prev (rect2 k)) (d k)) p j).trans ((tileBias_apply _ _ _ _).trans ?_)
  refine congrArg (fun z => prev z + rowSum d p j) ?_
  refine (rect2_emb _ _ _).trans ?_
  congr 1
  exact Fin.ext (Nat.div_add_mod _ _)

theorem acc2_apply (a : Memref sig .tc .vmem S8x3072 .f32) : ∀ (n : ℕ) (h : n ≤ 12) (p : Fin 8) (j : Fin 3072),
    View.canon (acc2 (F := Ideal) a d n h) (ix2 p j) = if j.val < 256 * n then rowSum d p j else 0
  | 0, _, p, j => by
    rw [if_neg (by omega)]
    show View.canon [_] _ = _
    rw [View.canon_unit_zero (S := S8x3072) (by funext a; match a with | 0 => rfl | 1 => rfl)]
    exact Ideal.ofBits_zero_f32
  | n + 1, h, p, j => by
    show View.canon (_ :: acc2 (F := Ideal) a d n _) _ = _
    by_cases hj : 256 * n ≤ j.val ∧ j.val < 256 * n + 256
    · have hk : j.val / 256 = n := by omega
      have he : ix2 p j = (rect2 ⟨n, h⟩).emb (ix2 p (⟨j.val % 256, by omega⟩ : Fin 256)) := by
        rw [rect2_emb]
        congr 1
        exact Fin.ext (by show j.val = 256 * n + j.val % 256; omega)
      have h0 : View.canon (acc2 (F := Ideal) a d n (Nat.le_of_succ_le h)) (ix2 p j) = 0 := by
        rw [acc2_apply a n, if_neg (by omega)]
      have hr : rowSum d p j = ∑ k : Fin 32, d ⟨n, h⟩ (ix2 (⟨k.val * 8 + p.val, by omega⟩ : Fin 256) (⟨j.val % 256, by omega⟩ : Fin 256)) := by
        subst hk; rfl
      rw [if_pos (by omega), hr, he]
      refine (View.canon_cons_emb _ _ _ _).trans ((tileBias_apply _ _ _ _).trans ?_)
      rw [View.readCov_eq_canon']
      show View.canon (acc2 (F := Ideal) a d n (Nat.le_of_succ_le h)) ((rect2 ⟨n, h⟩).emb (ix2 p (⟨j.val % 256, by omega⟩ : Fin 256))) + _ = _
      rw [← he, h0, zero_add]
    · rw [View.canon_cons_of_not_mem, acc2_apply a n]
      · split_ifs <;> first | rfl | omega
      · intro hm
        have := (Rect.mem_set_unit (inb := inbCol 8 _)).mp hm 1
        exact hj ⟨this.1, this.2⟩

end Cert.KernelIdeal.Mx

end
-- ==== Proof.Mx.Arrays.lean ====
module

public import proofs.«01_k».proof.Proof.Mx.Blocks

/-!
# What the kernel leaves in its output arrays

`D A0 A1 r j` is the gradient at token `r` and channel `j`. The five arrays after the run, each one function of the two
inputs: `arr2` (partial sums of the bias gradient), `arr3` and `arr4` (codes and scales along the channels), `arr5` and
`arr6` (codes and scales along the tokens).
-/

@[expose] public section

set_option maxRecDepth 16384

noncomputable section

namespace Cert.KernelIdeal.Mx

open Idealize.ShloMosaic Idealize.ShloMosaic.TcCoe Cert.KernelIdeal.Gen Cert.Mx
open Idealize.ShloMosaic.Pipeline (Dat)

/-- The gradient at a token and a channel. -/
def D (A0 A1 : Vec Ideal S24576x3072 .bf16) (r : Fin 24576) (j : Fin 3072) : EReal :=
  A0 (ix2 r j) * facK (A1 (ix2 r j))

/-- The scale of 32 channels of one token. -/
def rowS (A0 A1 : Vec Ideal S24576x3072 .bf16) (r : Fin 24576) (b : Fin 96) : EReal :=
  scaleOf (amax fun k => D A0 A1 r ⟨b.val * 32 + k.val, by omega⟩)

/-- The scale of 32 tokens of one channel. -/
def colS (A0 A1 : Vec Ideal S24576x3072 .bf16) (b : Fin 768) (j : Fin 3072) : EReal :=
  scaleOf (amax fun k => D A0 A1 ⟨b.val * 32 + k.val, by omega⟩ j)

def arr2 (A0 A1 : Vec Ideal S24576x3072 .bf16) : Vec Ideal S8x3072 .f32 := fun y =>
  ∑ s : Fin 96, ∑ k : Fin 32, D A0 A1 ⟨256 * s.val + (k.val * 8 + (y 0).val), by have : (y 0).val < 8 := (y 0).isLt; omega⟩ (y 1)

def arr3 (A0 A1 : Vec Ideal S24576x3072 .bf16) : Vec Ideal S24576x3072 .fp8e4m3 := fun y =>
  codeOf (D A0 A1 (y 0) (y 1))
    (kernelInv (kernelExp (rowS A0 A1 (y 0) ⟨(y 1).val / 32, by have : (y 1).val < 3072 := (y 1).isLt; omega⟩)))

def arr4 (A0 A1 : Vec Ideal S24576x3072 .bf16) : Vec Ideal S96x24576 .i32 := fun y =>
  IntOp.addi (kernelExp (rowS A0 A1 (y 1) (y 0))) 127#32

def arr5 (A0 A1 : Vec Ideal S24576x3072 .bf16) : Vec Ideal S3072x24576 .fp8e4m3 := fun y =>
  codeOf (D A0 A1 (y 1) (y 0))
    (kernelInv (kernelExp (colS A0 A1 ⟨(y 1).val / 32, by have : (y 1).val < 24576 := (y 1).isLt; omega⟩ (y 0))))

def arr6 (A0 A1 : Vec Ideal S24576x3072 .bf16) : Vec Ideal S768x3072 .i32 := fun y =>
  IntOp.addi (kernelExp (colS A0 A1 (y 0) (y 1))) 127#32

variable (m : (ℓ : Loc nD τ sig) → Buf (Elt Ideal) ℓ) (c : Dev nD)

/-- The two inputs as the kernel finds them. -/
abbrev A0 : Vec Ideal S24576x3072 .bf16 := V m c main_arg0
abbrev A1 : Vec Ideal S24576x3072 .bf16 := V m c main_arg1

/-! ### One point -/

theorem index_facts : ∀ t : Fin cfg0.N, t.val < 96
    ∧ win0_0.index t = ![t.val, 0] ∧ win0_1.index t = ![t.val, 0] ∧ win0_2.index t = ![0, 0]
    ∧ win0_3.index t = ![t.val, 0] ∧ win0_4.index t = ![0, t.val] ∧ win0_5.index t = ![0, t.val]
    ∧ win0_6.index t = ![t.val, 0] :=
  (by decide +kernel : ∀ t : Fin grid0.N, t.val < 96
    ∧ win0_0.index t = ![t.val, 0] ∧ win0_1.index t = ![t.val, 0] ∧ win0_2.index t = ![0, 0]
    ∧ win0_3.index t = ![t.val, 0] ∧ win0_4.index t = ![0, t.val] ∧ win0_5.index t = ![0, t.val]
    ∧ win0_6.index t = ![t.val, 0])

/-- The gradients of point `t`'s twelve chunks. -/
def ptD (t : Fin cfg0.N) : Fin 12 → FVec Ideal S256x256 .f32 :=
  chunkD (F := Ideal) (chunk (F := Ideal) (iblk m c 0 t)) (chunk (F := Ideal) (iblk m c 1 t))

theorem iblk0_apply (t : Fin cfg0.N) (p : Fin 256) (j : Fin 3072) :
    iblk m c 0 t (ix2 p j) = A0 m c (ix2 (⟨256 * t.val + p.val, by have := (index_facts t).1; omega⟩ : Fin 24576) j) := by
  have e := (index_facts t).2.1
  blk_simp [iblk]
  congr 1
  blk_ext [e]

theorem iblk1_apply (t : Fin cfg0.N) (p : Fin 256) (j : Fin 3072) :
    iblk m c 1 t (ix2 p j) = A1 m c (ix2 (⟨256 * t.val + p.val, by have := (index_facts t).1; omega⟩ : Fin 24576) j) := by
  have e := (index_facts t).2.2.1
  blk_simp [iblk]
  congr 1
  blk_ext [e]

theorem ptD_apply (t : Fin cfg0.N) (k : Fin 12) (p q : Fin 256) :
    ptD m c t k (ix2 p q) = D (A0 m c) (A1 m c) ⟨256 * t.val + p.val, by have := (index_facts t).1; omega⟩
      ⟨256 * k.val + q.val, by omega⟩ := by
  have h : ∀ x : Vec Ideal S256x3072 .bf16, chunk (F := Ideal) x k (ix2 p q) = x (ix2 p (⟨256 * k.val + q.val, by omega⟩ : Fin 3072)) := by
    intro x
    show x _ = x _
    congr 1
    funext a
    match a with
    | 0 => exact Fin.ext ((ValueKit.rect_emb_unit_val _ _ _ _ _).trans (Nat.zero_add _))
    | 1 => exact Fin.ext ((ValueKit.rect_emb_unit_val _ _ _ _ _).trans rfl)
  show tileD (F := Ideal) _ _ _ = _
  rw [tileD_apply, h, h, iblk0_apply, iblk1_apply]
  rfl

theorem at3 (t : Fin cfg0.N) : (dats m 0 c).after 3 t = View.canon (chunks.map (piece3 (F := Ideal) (ptD m c t))) := by
  rw [after0_3]
  by_cases h0 : t.val % 96 = 0
  · rw [outsAt0_A m c t h0]; dsimp only; exact out3_A (F := Ideal) ..
  · rw [outsAt0_B m c t h0]; dsimp only; exact out3_B (F := Ideal) ..

theorem at4 (t : Fin cfg0.N) : (dats m 0 c).after 4 t = View.canon (chunks.map (piece4 (F := Ideal) (ptD m c t))) := by
  rw [after0_4]
  by_cases h0 : t.val % 96 = 0
  · rw [outsAt0_A m c t h0]; dsimp only; exact out4_A (F := Ideal) ..
  · rw [outsAt0_B m c t h0]; dsimp only; exact out4_B (F := Ideal) ..

theorem at5 (t : Fin cfg0.N) : (dats m 0 c).after 5 t = View.canon (chunks.map (piece5 (F := Ideal) (ptD m c t))) := by
  rw [after0_5]
  by_cases h0 : t.val % 96 = 0
  · rw [outsAt0_A m c t h0]; dsimp only; exact out5_A (F := Ideal) ..
  · rw [outsAt0_B m c t h0]; dsimp only; exact out5_B (F := Ideal) ..

theorem at6 (t : Fin cfg0.N) : (dats m 0 c).after 6 t = View.canon (chunks.map (piece6 (F := Ideal) (ptD m c t))) := by
  rw [after0_6]
  by_cases h0 : t.val % 96 = 0
  · rw [outsAt0_A m c t h0]; dsimp only; exact out6_A (F := Ideal) ..
  · rw [outsAt0_B m c t h0]; dsimp only; exact out6_B (F := Ideal) ..

/-! ### The codes and scales -/

theorem rowS_point (t : Fin cfg0.N) (k : Fin 12) (h : Fin 8) (p : Fin 256) :
    tileRowMax (F := Ideal) (ptD m c t k) (ix2 h p)
      = rowS (A0 m c) (A1 m c) ⟨256 * t.val + p.val, by have := (index_facts t).1; omega⟩ ⟨k.val * 8 + h.val, by omega⟩ := by
  rw [tileRowMax_apply]
  unfold rowS
  simp only [ptD_apply]
  refine congrArg (fun f => scaleOf (amax f)) (funext fun x => ?_)
  congr 1
  exact Fin.ext (by show 256 * k.val + (h.val * 32 + x.val) = (k.val * 8 + h.val) * 32 + x.val; omega)

theorem colS_point (t : Fin cfg0.N) (k : Fin 12) (h : Fin 8) (q : Fin 256) :
    tileColMax (F := Ideal) (ptD m c t k) (ix2 h q)
      = colS (A0 m c) (A1 m c) ⟨8 * t.val + h.val, by have := (index_facts t).1; omega⟩ ⟨256 * k.val + q.val, by omega⟩ := by
  rw [tileColMax_apply]
  unfold colS
  simp only [ptD_apply]
  refine congrArg (fun f => scaleOf (amax f)) (funext fun x => ?_)
  congr 1
  exact Fin.ext (by show 256 * t.val + (h.val * 32 + x.val) = (8 * t.val + h.val) * 32 + x.val; omega)

theorem final3 : (dats m 0 c).arrAt 3 cfg0.N = arr3 (A0 m c) (A1 m c) := by
  refine (dats m 0 c).arrAt_eq_of_covers 3 _ (by decide +kernel) fun t hf y => ?_
  have e := (index_facts t).2.2.2.2.1
  have ht := (index_facts t).1
  blk_simp
  rw [at3]
  obtain ⟨p, j, rfl⟩ : ∃ (p : Fin 256) (j : Fin 3072), y = ix2 p j := ⟨y 0, y 1, (by funext a; match a with | 0 => rfl | 1 => rfl)⟩
  have hy : (win0_3.blk t).view.emb (ix2 p j) = ix2 (⟨256 * t.val + p.val, by omega⟩ : Fin 24576) j := by
    blk_ext [e]
  rw [hy]
  refine (piece3_apply _ _ _).trans ((tileRowCode_apply _ _ _).trans ?_)
  rw [tileInv_apply, rowS_point, ptD_apply]
  show codeOf _ _ = codeOf _ _
  have hj : (⟨256 * (j.val / 256) + j.val % 256, by omega⟩ : Fin 3072) = j := Fin.ext (by show 256 * (j.val / 256) + j.val % 256 = j.val; omega)
  have hb : (⟨j.val / 256 * 8 + j.val % 256 / 32, by omega⟩ : Fin 96) = ⟨j.val / 32, by omega⟩ := Fin.ext (by show j.val / 256 * 8 + j.val % 256 / 32 = j.val / 32; omega)
  rw [hj, hb]
  rfl

theorem final4 : (dats m 0 c).arrAt 4 cfg0.N = arr4 (A0 m c) (A1 m c) := by
  refine (dats m 0 c).arrAt_eq_of_covers 4 _ (by decide +kernel) fun t hf y => ?_
  have e := (index_facts t).2.2.2.2.2.1
  have ht := (index_facts t).1
  blk_simp
  rw [at4]
  obtain ⟨p, j, rfl⟩ : ∃ (p : Fin 96) (j : Fin 256), y = ix2 p j := ⟨y 0, y 1, (by funext a; match a with | 0 => rfl | 1 => rfl)⟩
  have hy : (win0_4.blk t).view.emb (ix2 p j) = ix2 p (⟨256 * t.val + j.val, by omega⟩ : Fin 24576) := by
    blk_ext [e]
  rw [hy]
  refine (piece4_apply _ _ _).trans ((tileScale_apply _ _).trans ?_)
  rw [rowS_point]
  have hp : (⟨p.val / 8 * 8 + p.val % 8, by omega⟩ : Fin 96) = p := Fin.ext (by show p.val / 8 * 8 + p.val % 8 = p.val; omega)
  rw [hp]
  rfl

theorem final5 : (dats m 0 c).arrAt 5 cfg0.N = arr5 (A0 m c) (A1 m c) := by
  refine (dats m 0 c).arrAt_eq_of_covers 5 _ (by decide +kernel) fun t hf y => ?_
  have e := (index_facts t).2.2.2.2.2.2.1
  have ht := (index_facts t).1
  blk_simp
  rw [at5]
  obtain ⟨p, j, rfl⟩ : ∃ (p : Fin 3072) (j : Fin 256), y = ix2 p j := ⟨y 0, y 1, (by funext a; match a with | 0 => rfl | 1 => rfl)⟩
  have hy : (win0_5.blk t).view.emb (ix2 p j) = ix2 p (⟨256 * t.val + j.val, by omega⟩ : Fin 24576) := by
    blk_ext [e]
  rw [hy]
  refine (piece5_apply _ _ _).trans ((tileColCode_apply _ _ _).trans ?_)
  rw [tileInv_apply, colS_point, ptD_apply]
  show codeOf _ _ = codeOf _ _
  have hp : (⟨256 * (p.val / 256) + p.val % 256, by omega⟩ : Fin 3072) = p := Fin.ext (by show 256 * (p.val / 256) + p.val % 256 = p.val; omega)
  have hb : (⟨8 * t.val + j.val / 32, by omega⟩ : Fin 768) = ⟨(256 * t.val + j.val) / 32, by omega⟩ := Fin.ext (by show 8 * t.val + j.val / 32 = (256 * t.val + j.val) / 32; omega)
  rw [hp, hb]
  rfl

theorem final6 : (dats m 0 c).arrAt 6 cfg0.N = arr6 (A0 m c) (A1 m c) := by
  refine (dats m 0 c).arrAt_eq_of_covers 6 _ (by decide +kernel) fun t hf y => ?_
  have e := (index_facts t).2.2.2.2.2.2.2
  have ht := (index_facts t).1
  blk_simp
  rw [at6]
  obtain ⟨p, j, rfl⟩ : ∃ (p : Fin 8) (j : Fin 3072), y = ix2 p j := ⟨y 0, y 1, (by funext a; match a with | 0 => rfl | 1 => rfl)⟩
  have hy : (win0_6.blk t).view.emb (ix2 p j) = ix2 (⟨8 * t.val + p.val, by omega⟩ : Fin 768) j := by
    blk_ext [e]
  rw [hy]
  refine (piece6_apply _ _ _).trans ((tileScale_apply _ _).trans ?_)
  rw [colS_point]
  have hj : (⟨256 * (j.val / 256) + j.val % 256, by omega⟩ : Fin 3072) = j := Fin.ext (by show 256 * (j.val / 256) + j.val % 256 = j.val; omega)
  rw [hj]
  rfl

/-! ### The partial sums of the bias gradient -/

/-- What point `t` adds. -/
def ptSum (p : Fin 8) (j : Fin 3072) (s : ℕ) (hs : s < 96) : EReal :=
  ∑ k : Fin 32, D (A0 m c) (A1 m c) ⟨256 * s + (k.val * 8 + p.val), by omega⟩ j

theorem rowSum_point (t : Fin cfg0.N) (p : Fin 8) (j : Fin 3072) :
    rowSum (ptD m c t) p j = ptSum m c p j t.val (index_facts t).1 := by
  unfold rowSum ptSum
  refine Finset.sum_congr rfl fun k _ => (ptD_apply m c t _ _ _).trans ?_
  congr 1
  exact Fin.ext (by show 256 * (j.val / 256) + j.val % 256 = j.val; omega)

theorem first2 (t : Fin cfg0.N) (h0 : t.val % 96 = 0) :
    (outsAt0 m c t.val t.isLt).1 = View.canon (acc2 (F := Ideal) (ms0_2 t) (ptD m c t) 12 le_rfl) := by
  rw [outsAt0_A m c t h0]; dsimp only; exact out2_A (F := Ideal) ..

theorem next2 (t : Fin cfg0.N) (h0 : ¬ t.val % 96 = 0) :
    (outsAt0 m c t.val t.isLt).1 = View.canon (chunks.map (piece2 (F := Ideal)
      (fun k => View.ld (outsAt0 m c (t.val - 1) (by have := t.isLt; omega)).1 (rect2 k)) (ptD m c t))) := by
  rw [outsAt0_B m c t h0]; dsimp only; exact out2_B (F := Ideal) ..

theorem at2 (p : Fin 8) (j : Fin 3072) : ∀ (n : ℕ) (hn : n < cfg0.N) (hn' : n < 96),
    (outsAt0 m c n hn).1 (ix2 p j) = ∑ s : Fin (n + 1), ptSum m c p j s.val (by omega)
  | 0, hn, hn' => by
    refine (congrFun (first2 m c ⟨0, hn⟩ rfl) _).trans ((acc2_apply _ _ _ _ _ _).trans ?_)
    rw [if_pos (by omega), Fin.sum_univ_one]
    exact rowSum_point m c ⟨0, hn⟩ p j
  | n + 1, hn, hn' => by
    refine (congrFun (next2 m c ⟨n + 1, hn⟩ (by show ¬ (n + 1) % 96 = 0; omega)) _).trans ((piece2_apply _ _ _ _).trans ?_)
    rw [Fin.sum_univ_castSucc]
    exact congrArg₂ (· + ·) (at2 p j n _ (by omega)) (rowSum_point m c ⟨n + 1, hn⟩ p j)

theorem final2 : (dats m 0 c).arrAt 2 cfg0.N = arr2 (A0 m c) (A1 m c) := by
  refine (dats m 0 c).arrAt_eq_of_after_last 2 (⟨95, by decide +kernel⟩ : Fin grid0.N) (by decide +kernel) _ fun y => ?_
  rw [after0_2]
  obtain ⟨p, j, rfl⟩ : ∃ (p : Fin 8) (j : Fin 3072), y = ix2 p j := ⟨y 0, y 1, (by funext a; match a with | 0 => rfl | 1 => rfl)⟩
  exact at2 m c p j 95 _ (by omega)

end Cert.KernelIdeal.Mx

end
-- ==== Proof.Mx.Tail.lean ====
module

public import proofs.«01_k».proof.Proof.Mx.Arrays
public import Idealize.ShloMosaic.Lib.StableHlo

/-!
# The kernel's results

After the pipeline the program sums the eight partial rows of the bias gradient and transposes and narrows the two
arrays of scales. `kernel_run` states the five results as functions of the two inputs.
-/

@[expose] public section

set_option maxRecDepth 16384

noncomputable section

namespace Cert.KernelIdeal.Mx

open Idealize.ShloMosaic Idealize.ShloMosaic.TcCoe Idealize.SL.Sem Cert.KernelIdeal.Gen Cert.Mx

/-- The bias gradient. -/
def res1 (a0 a1 : Vec Ideal S24576x3072 .bf16) : Vec Ideal S3072 .f32 :=
  Host.reduceAdd (arr2 a0 a1) (constant (F := Ideal) S_ .f32 0x00000000#32) reducesTo_S8x3072_S3072_d0 h_S_

/-- The scales along the channels. -/
def res3 (a0 a1 : Vec Ideal S24576x3072 .bf16) : Vec Ideal S24576x96 .i8 :=
  trunci 8 (transpose S24576x96 [1, 0] (arr4 a0 a1) transposes_S96x24576_S24576x96_1_0) natLt_8_32

/-- The scales along the tokens. -/
def res5 (a0 a1 : Vec Ideal S24576x3072 .bf16) : Vec Ideal S3072x768 .i8 :=
  trunci 8 (transpose S3072x768 [1, 0] (arr6 a0 a1) transposes_S768x3072_S3072x768_1_0) natLt_8_32

variable (m : (ℓ : Loc nD τ sig) → Buf (Elt Ideal) ℓ) (c : Dev nD)

/-- The windows' arrays are different buffers. -/
theorem arr_inj : Function.Injective (Pipeline.arrRef spec0) := fun a b => by revert a b; decide

/-- The arrays as the host lines after the pipeline find them. -/
theorem found (w : Fin cfg0.W) :
    Pipeline.withArrays spec0 c (V0 m c) (fun w => (dats m 0 c).arrAt w cfg0.N)
      (Proc.devRef .tc (Pipeline.arrRef spec0 w)) = (dats m 0 c).arrAt w cfg0.N :=
  Pipeline.withArrays_arr spec0 arr_inj c (V0 m c) (fun w => (dats m 0 c).arrAt w cfg0.N) w

theorem tail1 : Pipeline.afterTail₀ cfgs (dats m) 0 (V0 m) [hostOps1] c main_v1 = res1 (A0 m c) (A1 m c) := by
  show StableHlo.after hostOps1 _ _ = _
  after_results
  exact congrArg (fun x => Host.reduceAdd x (constant (F := Ideal) S_ .f32 0x00000000#32) reducesTo_S8x3072_S3072_d0 h_S_) ((found m c 2).trans (final2 m c))

theorem tail3 : Pipeline.afterTail₀ cfgs (dats m) 0 (V0 m) [hostOps1] c main_v3 = res3 (A0 m c) (A1 m c) := by
  show StableHlo.after hostOps1 _ _ = _
  after_results
  exact congrArg (fun x => trunci 8 (transpose S24576x96 [1, 0] x transposes_S96x24576_S24576x96_1_0) natLt_8_32) ((found m c 4).trans (final4 m c))

theorem tail5 : Pipeline.afterTail₀ cfgs (dats m) 0 (V0 m) [hostOps1] c main_v5 = res5 (A0 m c) (A1 m c) := by
  show StableHlo.after hostOps1 _ _ = _
  after_results
  exact congrArg (fun x => trunci 8 (transpose S3072x768 [1, 0] x transposes_S768x3072_S3072x768_1_0) natLt_8_32) ((found m c 6).trans (final6 m c))

theorem A0_eq : A0 m c = m ((c : Thread nD τ).loc main_arg0) := V_main_arg0 m c
theorem A1_eq : A1 m c = m ((c : Thread nD τ).loc main_arg1) := V_main_arg1 m c

/-- The kernel's run: every result as a function of the two inputs, the inputs unchanged. -/
theorem kernel_run (ρ) : θ_run defs (onTc (τ := τ) (main (F := Ideal))) ⟨m, fun _ => 0, ρ⟩ fun r => ∀ c : Dev nD,
      r.2.mem ((c : Thread nD τ).loc main_v1) = res1 (m ((c : Thread nD τ).loc main_arg0)) (m ((c : Thread nD τ).loc main_arg1))
      ∧ r.2.mem ((c : Thread nD τ).loc main_v0_1) = arr3 (m ((c : Thread nD τ).loc main_arg0)) (m ((c : Thread nD τ).loc main_arg1))
      ∧ r.2.mem ((c : Thread nD τ).loc main_v3) = res3 (m ((c : Thread nD τ).loc main_arg0)) (m ((c : Thread nD τ).loc main_arg1))
      ∧ r.2.mem ((c : Thread nD τ).loc main_v0_3) = arr5 (m ((c : Thread nD τ).loc main_arg0)) (m ((c : Thread nD τ).loc main_arg1))
      ∧ r.2.mem ((c : Thread nD τ).loc main_v5) = res5 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  rw [← A0_eq m c, ← A1_eq m c]
  exact ⟨((h c).2 main_v1 (by decide)).trans (tail1 m c), ((h c).1 3).trans (final3 m c),
    ((h c).2 main_v3 (by decide)).trans (tail3 m c), ((h c).1 5).trans (final5 m c),
    ((h c).2 main_v5 (by decide)).trans (tail5 m c),
    ((h c).1 0).trans (((dats m 0 c).arrAt_in 0 rfl _).trans (A_eq m c 0)),
    ((h c).1 1).trans (((dats m 0 c).arrAt_in 1 rfl _).trans (A_eq m c 1))⟩

end Cert.KernelIdeal.Mx

end
-- ==== Proof.Mx.Ref.lean ====
module

public import proofs.«01_k».proof.Proof.Mx.Read
public import proofs.«01_k».proof.Proof.Gen.ReferenceIdeal.Value

/-!
# The reference's results read at an index
-/

@[expose] public section

set_option maxRecDepth 16384

noncomputable section

namespace Cert.ReferenceIdeal.Mx

open Idealize.ShloMosaic Cert.ReferenceIdeal.Gen Cert.ReferenceIdeal.Value Cert.Mx
open Cert.KernelIdeal.Mx (amax scaleOf codeOf)

/-- The reference's factor with its named constants. -/
def facR (x : EReal) : EReal :=
  factorR (Named.named (F := Ideal) κ "gelu_k" (φ := .f32) 0x3F4C422A#32) (Named.named (F := Ideal) κ "gelu_c" (φ := .f32) 0x3D372713#32)
    (Named.named (F := Ideal) κ "gelu_3c" (φ := .f32) 0x3E095D4F#32) x

variable (a0 a1 : Vec Ideal S24576x3072 .bf16)

/-- The gradient at a token and a channel. -/
def D (r : Fin 24576) (j : Fin 3072) : EReal := a0 (ix2 r j) * facR (a1 (ix2 r j))

/-- The largest absolute value of 32 channels of one token. -/
def rowM (r : Fin 24576) (b : Fin 96) : EReal := amax fun k => D a0 a1 r ⟨b.val * 32 + k.val, by omega⟩

/-- The largest absolute value of 32 tokens of one channel. -/
def colM (b : Fin 768) (j : Fin 3072) : EReal := amax fun k => D a0 a1 ⟨b.val * 32 + k.val, by omega⟩ j

theorem pay16_eq : k0_pay16 (F := Ideal) a0 a1 = k0_pay4 (F := Ideal) a0 a1 := by
  unfold k0_pay16; rw [View.ld_unit_zero (S := S24576x3072) hz0 _ a0, View.ld_unit_zero (S := S24576x3072) hz1 _ a1]

theorem pay17_eq : k0_pay17 (F := Ideal) a0 a1 = k0_pay7 (F := Ideal) a0 a1 := by
  unfold k0_pay17; rw [View.ld_unit_zero (S := S24576x3072) hz0 _ a0, View.ld_unit_zero (S := S24576x3072) hz1 _ a1]

theorem pay18_eq : k0_pay18 (F := Ideal) a0 a1 = k0_pay8 (F := Ideal) a0 a1 := by
  unfold k0_pay18; rw [View.ld_unit_zero (S := S24576x3072) hz0 _ a0, View.ld_unit_zero (S := S24576x3072) hz1 _ a1]

theorem pay19_eq : k0_pay19 (F := Ideal) a0 a1 = k0_pay13 (F := Ideal) (k0_pay4 (F := Ideal) a0 a1) := by
  unfold k0_pay19; rw [pay16_eq]

theorem pay20_eq : k0_pay20 (F := Ideal) a0 a1 = k0_pay14 (F := Ideal) (k0_pay4 (F := Ideal) a0 a1) := by
  unfold k0_pay20; rw [pay16_eq]

theorem pay21_eq : k0_pay21 (F := Ideal) a0 a1 = k0_pay15 (F := Ideal) := rfl

theorem pay4_apply (r : Fin 24576) (j : Fin 3072) : k0_pay4 (F := Ideal) a0 a1 (ix2 r j) = D a0 a1 r j := rfl

theorem G2_apply (j : Fin 3072) : G2 (F := Ideal) a0 a1 (ix1 j) = ∑ r : Fin 24576, D a0 a1 r j := by
  show k0_pay5 (F := Ideal) a0 a1 (ix1 j) = _
  pointwise [k0_pay5]
  rfl

theorem pay7_apply (r : Fin 24576) (b : Fin 96) : k0_pay7 (F := Ideal) a0 a1 (ix2 r b) = rowM a0 a1 r b := by
  pointwise [k0_pay7, k0_pay6, rowM, amax]
  rfl

/-- The exponent as both directions compute it, from the rounded logarithm `u` (one has been added) and the largest
absolute value `a`. -/
def expOf (a u : EReal) : BitVec 32 :=
  Ideal.fptosi 32 (Scalar.select (Ideal.cmp .oeq a (Ideal.ofBits .f32 0x00000000#32)) (Ideal.ofBits .f32 0x00000000#32)
    (max u (Ideal.ofBits .f32 0xC2FC0000#32)))

/-- The rounded logarithm of the scale of a group. -/
def logOf (s : EReal) : EReal :=
  Ideal.liftRound Int.floor (Ideal.div (Ideal.log s) (Ideal.log (Ideal.ofBits .f32 0x40000000#32)))

theorem expOf_logOf (a s : EReal) : expOf a (logOf s + Ideal.ofBits .f32 0x3F800000#32) = refExp a s := rfl

theorem select_apply {S : Shape} (a u : FVec Ideal S .f32) (y : S.Idx) :
    fptosi (F := Ideal) 32 (select (cmpf (F := Ideal) .oeq a (broadcast S (Scalar.ofBits (F := Ideal) .f32 0x00000000#32)))
      (broadcast S (Scalar.ofBits (F := Ideal) .f32 0x00000000#32))
      (maximumf (F := Ideal) u (broadcast S (Scalar.ofBits (F := Ideal) .f32 0xC2FC0000#32)))) y = expOf (a y) (u y) := rfl

theorem log_apply {S : Shape} (t : FVec Ideal S .f32) (y : S.Idx) (s : EReal) (h : t y = Ideal.log s) :
    floor (F := Ideal) (divf (F := Ideal) t (broadcast S (Scalar.log (F := Ideal) (Scalar.ofBits (F := Ideal) .f32 0x40000000#32)))) y
      = logOf s := by
  unfold logOf
  rw [← h]
  rfl

theorem pay9_apply (s t : FVec Ideal S24576x96 .f32) (y : S24576x96.Idx) (z : EReal) (hz : t y = Ideal.log z) :
    k0_pay9 (F := Ideal) s t (Scalar.ofBits .f32 0x40000000#32) y = refExp (s y) z := by
  unfold k0_pay9
  refine (select_apply _ _ _).trans ?_
  rw [← expOf_logOf, ← log_apply t y z hz]
  rfl

theorem logScale_apply {S : Shape} (w : FVec Ideal S .f32) (y : S.Idx) :
    log (F := Ideal) (mulf (F := Ideal) w (broadcast S (Scalar.ofBits (F := Ideal) .f32 0x3B124925#32))) y
      = Ideal.log (scaleOf (w y)) := rfl

theorem pay8_apply (y : S24576x96.Idx) :
    k0_pay8 (F := Ideal) a0 a1 y = Ideal.log (scaleOf (k0_pay7 (F := Ideal) a0 a1 y)) := by
  unfold k0_pay8
  exact logScale_apply _ _

theorem exp_row (r : Fin 24576) (b : Fin 96) :
    k0_pay9 (F := Ideal) (k0_pay7 (F := Ideal) a0 a1) (k0_pay8 (F := Ideal) a0 a1) (Scalar.ofBits .f32 0x40000000#32) (ix2 r b)
      = refExp (rowM a0 a1 r b) (scaleOf (rowM a0 a1 r b)) := by
  rw [← pay7_apply]
  exact pay9_apply _ _ _ _ (pay8_apply a0 a1 _)

theorem pay13_apply (b : Fin 768) (j : Fin 3072) :
    k0_pay13 (F := Ideal) (k0_pay4 (F := Ideal) a0 a1) (ix2 b j) = colM a0 a1 b j := by
  pointwise [k0_pay13, k0_pay12, colM, amax]
  rfl

theorem pay14_apply (v : FVec Ideal S24576x3072 .f32) (y : S768x3072.Idx) :
    k0_pay14 (F := Ideal) v y = logOf (scaleOf (k0_pay13 (F := Ideal) v y)) := by
  unfold k0_pay14
  exact log_apply _ _ _ (logScale_apply _ _)

theorem pay1_apply (a u : FVec Ideal S768x3072 .f32) (y : S768x3072.Idx) (s : EReal) (h : u y = logOf s) :
    k0_pay1 (F := Ideal) a u (k0_pay15 (F := Ideal)) y = refExp (a y) s := by
  unfold k0_pay1
  refine (select_apply _ _ _).trans ?_
  rw [← expOf_logOf, ← h]
  rfl

theorem exp_col (b : Fin 768) (j : Fin 3072) :
    k0_pay1 (F := Ideal) (k0_pay13 (F := Ideal) (k0_pay4 (F := Ideal) a0 a1)) (k0_pay14 (F := Ideal) (k0_pay4 (F := Ideal) a0 a1)) (k0_pay15 (F := Ideal)) (ix2 b j)
      = refExp (colM a0 a1 b j) (scaleOf (colM a0 a1 b j)) := by
  rw [← pay13_apply]
  exact pay1_apply _ _ _ _ (pay14_apply _ _)

theorem G4_apply (r : Fin 24576) (b : Fin 96) : G4 (F := Ideal) a0 a1 (ix2 r b)
    = BitVec.setWidth 8 (IntOp.addi (refExp (rowM a0 a1 r b) (scaleOf (rowM a0 a1 r b))) 127#32) := by
  rw [← exp_row]
  show k0_pay11 (F := Ideal) _ _ _ _ = _
  rw [pay17_eq, pay18_eq]
  unfold k0_pay11
  rfl

theorem G6_apply (j : Fin 3072) (b : Fin 768) : G6 (F := Ideal) a0 a1 (ix2 j b)
    = BitVec.setWidth 8 (IntOp.addi (refExp (colM a0 a1 b j) (scaleOf (colM a0 a1 b j))) 127#32) := by
  rw [← exp_col]
  show k0_pay3 (F := Ideal) _ _ _ _ = _
  rw [pay19_eq, pay20_eq, pay21_eq]
  pointwise [k0_pay3]

theorem G3_apply (r : Fin 24576) (j : Fin 3072) : G3 (F := Ideal) a0 a1 (ix2 r j)
    = codeOf (D a0 a1 r j) (refInv (refExp (rowM a0 a1 r ⟨j.val / 32, by omega⟩) (scaleOf (rowM a0 a1 r ⟨j.val / 32, by omega⟩)))) := by
  rw [← exp_row, ← pay4_apply]
  show k0_pay10 (F := Ideal) _ _ _ _ _ = _
  rw [pay17_eq, pay18_eq]
  pointwise [k0_pay10, codeOf, refInv, k0_pay6]
  rfl

theorem G5_apply (j : Fin 3072) (r : Fin 24576) : G5 (F := Ideal) a0 a1 (ix2 j r)
    = codeOf (D a0 a1 r j) (refInv (refExp (colM a0 a1 ⟨r.val / 32, by omega⟩ j) (scaleOf (colM a0 a1 ⟨r.val / 32, by omega⟩ j)))) := by
  rw [← exp_col, ← pay4_apply]
  show k0_pay2 (F := Ideal) _ _ _ _ _ = _
  rw [pay16_eq, pay19_eq, pay20_eq, pay21_eq]
  pointwise [k0_pay2, codeOf, refInv, k0_pay12]
  rfl

end Cert.ReferenceIdeal.Mx

end
-- ==== Proof.Mx.Meet.lean ====
module

public import proofs.«01_k».proof.Proof.Mx.Tail
public import proofs.«01_k».proof.Proof.Mx.Ref
public import proofs.«01_k».proof.Pre_finite_grad

/-!
# The two programs' results are equal

The factors of the two programs are one real function of `x` (`facK_eq`, `facR_eq`), so their gradients are equal. Where
the incoming gradients are finite, every gradient is a real number of absolute value below `2^130`
(`D_real`); then every group of 32 has a real largest absolute value, and the two programs give it one exponent
and one reciprocal scale (`group_agree`).
-/

@[expose] public section

set_option maxRecDepth 16384

noncomputable section

namespace Cert.Mx

open Idealize.ShloMosaic
open Cert.KernelIdeal.Mx (facK amax scaleOf codeOf arr2 arr3 arr4 arr5 arr6 res1 res3 res5)
open Cert.ReferenceIdeal.Mx (facR)
open Cert.ReferenceIdeal.Value (G2 G3 G4 G5 G6)

/-- The shape of the two inputs. -/
abbrev SX : Shape := ⟨2, ![24576, 3072]⟩

theorem facK_eq (x : EReal) : facK x = (factorE x : EReal) := by
  have e1 : Named.named (F := Ideal) Cert.KernelIdeal.κ "y_scale" (φ := .f32) 0x3EA88D5C#32 = ((rho * gK : ℝ) : EReal) :=
    IdealRules.named_const.ideal_named_scalar _ _ _ _ rfl
  have e2 : Named.named (F := Ideal) Cert.KernelIdeal.κ "y_lin" (φ := .f32) 0x401B1D9B#32 = ((1 / rho : ℝ) : EReal) :=
    (IdealRules.named_const.ideal_named_scalar _ _ _ _ rfl).trans
      (congrArg Real.toEReal (by unfold rho; norm_num : (50000000000000000 / 20629769475756923 : ℝ) = 1 / rho))
  have e3 : Named.named (F := Ideal) Cert.KernelIdeal.κ "y_lin_third" (φ := .f32) 0x3F4ED224#32 = ((1 / (3 * rho) : ℝ) : EReal) :=
    (IdealRules.named_const.ideal_named_scalar _ _ _ _ rfl).trans
      (congrArg Real.toEReal (by unfold rho; norm_num : (50000000000000000 / 61889308427270769 : ℝ) = 1 / (3 * rho)))
  unfold facK
  rw [e1, e2, e3, factorK_eq]

theorem facR_eq (x : EReal) : facR x = (factorE x : EReal) := by
  have e1 : Named.named (F := Ideal) Cert.ReferenceIdeal.κ "gelu_k" (φ := .f32) 0x3F4C422A#32 = (gK : EReal) :=
    IdealRules.named_const.ideal_named_scalar _ _ _ _ rfl
  have e2 : Named.named (F := Ideal) Cert.ReferenceIdeal.κ "gelu_c" (φ := .f32) 0x3D372713#32 = (gC : EReal) :=
    (IdealRules.named_const.ideal_named_scalar _ _ _ _ rfl).trans
      (congrArg Real.toEReal (by unfold gC rho; norm_num : ((8779769719079225391763736241808421255733970302467 / 62500000000000000000000000000000000000000000000000) * Real.pi⁻¹ : ℝ) = gC))
  have e3 : Named.named (F := Ideal) Cert.ReferenceIdeal.κ "gelu_3c" (φ := .f32) 0x3E095D4F#32 = ((3 * gC : ℝ) : EReal) :=
    (IdealRules.named_const.ideal_named_scalar _ _ _ _ rfl).trans
      (congrArg Real.toEReal (by unfold gC rho; ring : ((26339309157237676175291208725425263767201910907401 / 62500000000000000000000000000000000000000000000000) * Real.pi⁻¹ : ℝ) = 3 * gC))
  unfold facR
  rw [e1, e2, e3, factorR_eq]

/-! ### The gradients -/

theorem D_eq (a0 a1 : Vec Ideal SX .bf16) (r : Fin 24576) (j : Fin 3072) :
    Cert.KernelIdeal.Mx.D a0 a1 r j = Cert.ReferenceIdeal.Mx.D a0 a1 r j := by
  unfold Cert.KernelIdeal.Mx.D Cert.ReferenceIdeal.Mx.D
  rw [facK_eq, facR_eq]

/-- A real number of absolute value below `2^130`. -/
def Small (d : EReal) : Prop := ∃ x : ℝ, d = (x : EReal) ∧ |x| < 2 ^ (130 : ℕ)

/-- The largest finite bf16 number. -/
theorem ofBits_bf16_max : Ideal.ofBits .f32 0x7F7F0000#32 = ((338953138925153547590470800371487866880 : ℝ) : EReal) := by
  simp [Ideal.ofBits, Ideal.ieee, -EReal.coe_mul]; norm_num

/-- Every incoming gradient is finite. -/
def Finite (a0 : Vec Ideal SX .bf16) : Prop :=
  ∀ (r : Fin 24576) (j : Fin 3072), ∃ g : ℝ, a0 (ix2 r j) = (g : EReal) ∧ |g| ≤ 2 ^ (128 : ℕ)

theorem finite_of_le {g : EReal} (h : Ideal.cmp .ole (max g (-g)) (Ideal.ofBits .f32 0x7F7F0000#32) = 1#1) :
    ∃ x : ℝ, g = (x : EReal) ∧ |x| ≤ 2 ^ (128 : ℕ) := by
  have h' : max g (-g) ≤ Ideal.ofBits .f32 0x7F7F0000#32 := by
    by_contra hn
    simp [Ideal.cmp, hn] at h
  rw [ofBits_bf16_max] at h'
  induction g using EReal.rec with
  | bot => simp at h'
  | top => simp at h'
  | coe x =>
    refine ⟨x, rfl, ?_⟩
    rw [← EReal.coe_neg, max_le_iff, EReal.coe_le_coe_iff, EReal.coe_le_coe_iff] at h'
    rw [abs_le]
    constructor <;> norm_num <;> linarith [h'.1, h'.2]

/-- The precondition says so. -/
theorem finite_of_pre [Cert.Pre_finite_grad.Facts] (a0 a1 : Vec Ideal SX .bf16)
    (h : Cert.Pre_finite_grad.fn (F := Ideal) a0 a1 = fun _ => 1#1) : Finite a0 :=
  fun r j => finite_of_le (congrFun h (ix2 r j))

theorem D_real (a0 a1 : Vec Ideal SX .bf16) (h : Finite a0) (r : Fin 24576) (j : Fin 3072) :
    Small (Cert.ReferenceIdeal.Mx.D a0 a1 r j) := by
  obtain ⟨g, hg, hb⟩ := h r j
  refine ⟨g * factorE (a1 (ix2 r j)), ?_, ?_⟩
  · unfold Cert.ReferenceIdeal.Mx.D
    rw [facR_eq, hg, EReal.coe_mul]
  · rw [abs_mul]
    have h2 := factorE_bound (a1 (ix2 r j))
    calc |g| * |factorE (a1 (ix2 r j))| ≤ 2 ^ (128 : ℕ) * 2 := mul_le_mul hb h2 (abs_nonneg _) (by positivity)
      _ < 2 ^ (130 : ℕ) := by norm_num

/-! ### A group of 32 -/

theorem amax_real (f : Fin 32 → EReal) (h : ∀ k, Small (f k)) :
    ∃ a : ℝ, amax f = (a : EReal) ∧ 0 ≤ a ∧ a < 2 ^ (130 : ℕ) := by
  have hlt : amax f < ((2 ^ (130 : ℕ) : ℝ) : EReal) := by
    unfold amax
    rw [Finset.fold_max_lt]
    refine ⟨?_, fun k _ => ?_⟩
    · have : Ideal.ofBits .f32 0xFF800000#32 = ⊥ := by simp [Ideal.ofBits, Ideal.ieee]
      rw [this]; exact EReal.bot_lt_coe _
    · obtain ⟨x, hx, hb⟩ := h k
      rw [hx, ← EReal.coe_neg, max_lt_iff, EReal.coe_lt_coe_iff, EReal.coe_lt_coe_iff]
      exact ⟨(abs_lt.mp hb).2, by have := (abs_lt.mp hb).1; linarith⟩
  have hge : (0 : EReal) ≤ amax f := by
    unfold amax
    rw [Finset.le_fold_max]
    refine .inr ⟨0, Finset.mem_univ _, ?_⟩
    obtain ⟨x, hx, -⟩ := h 0
    rw [hx, ← EReal.coe_neg, le_max_iff, ← EReal.coe_zero, EReal.coe_le_coe_iff, EReal.coe_le_coe_iff]
    rcases le_total 0 x with h | h
    · exact .inl h
    · exact .inr (by linarith)
  revert hlt hge
  induction amax f using EReal.rec with
  | bot => exact fun _ h => absurd h (by simp)
  | top => exact fun h _ => absurd h (by simp)
  | coe a => exact fun h1 h2 => ⟨a, rfl, EReal.coe_nonneg.mp h2, EReal.coe_lt_coe_iff.mp h1⟩

theorem group_agree (f : Fin 32 → EReal) (h : ∀ k, Small (f k)) :
    kernelExp (scaleOf (amax f)) = refExp (amax f) (scaleOf (amax f))
      ∧ kernelInv (kernelExp (scaleOf (amax f))) = refInv (refExp (amax f) (scaleOf (amax f))) := by
  obtain ⟨a, ha, h0, h1⟩ := amax_real f h
  rw [ha]
  exact exponents_agree h0 h1

/-! ### The results -/

variable (a0 a1 : Vec Ideal SX .bf16)

theorem row_agree (h : Finite a0) (r : Fin 24576) (b : Fin 96) :
    kernelExp (Cert.KernelIdeal.Mx.rowS a0 a1 r b)
        = refExp (Cert.ReferenceIdeal.Mx.rowM a0 a1 r b) (scaleOf (Cert.ReferenceIdeal.Mx.rowM a0 a1 r b))
      ∧ kernelInv (kernelExp (Cert.KernelIdeal.Mx.rowS a0 a1 r b))
        = refInv (refExp (Cert.ReferenceIdeal.Mx.rowM a0 a1 r b) (scaleOf (Cert.ReferenceIdeal.Mx.rowM a0 a1 r b))) := by
  unfold Cert.KernelIdeal.Mx.rowS Cert.ReferenceIdeal.Mx.rowM
  simp only [D_eq]
  exact group_agree _ fun k => D_real a0 a1 h _ _

theorem col_agree (h : Finite a0) (b : Fin 768) (j : Fin 3072) :
    kernelExp (Cert.KernelIdeal.Mx.colS a0 a1 b j)
        = refExp (Cert.ReferenceIdeal.Mx.colM a0 a1 b j) (scaleOf (Cert.ReferenceIdeal.Mx.colM a0 a1 b j))
      ∧ kernelInv (kernelExp (Cert.KernelIdeal.Mx.colS a0 a1 b j))
        = refInv (refExp (Cert.ReferenceIdeal.Mx.colM a0 a1 b j) (scaleOf (Cert.ReferenceIdeal.Mx.colM a0 a1 b j))) := by
  unfold Cert.KernelIdeal.Mx.colS Cert.ReferenceIdeal.Mx.colM
  simp only [D_eq]
  exact group_agree _ fun k => D_real a0 a1 h _ _

/-- The tokens, by sublane, grid point and row of 8 within the point. -/
def tokens : Fin 8 × Fin 96 × Fin 32 ≃ Fin 24576 where
  toFun x := ⟨256 * x.2.1.val + (x.2.2.val * 8 + x.1.val), by omega⟩
  invFun r := (⟨r.val % 8, by omega⟩, ⟨r.val / 256, by omega⟩, ⟨r.val % 256 / 8, by omega⟩)
  left_inv x := by
    obtain ⟨p, s, k⟩ := x
    refine Prod.ext (Fin.ext ?_) (Prod.ext (Fin.ext ?_) (Fin.ext ?_))
    · show (256 * s.val + (k.val * 8 + p.val)) % 8 = p.val; omega
    · show (256 * s.val + (k.val * 8 + p.val)) / 256 = s.val; omega
    · show (256 * s.val + (k.val * 8 + p.val)) % 256 / 8 = k.val; omega
  right_inv r := Fin.ext (by show 256 * (r.val / 256) + (r.val % 256 / 8 * 8 + r.val % 8) = r.val; omega)

theorem sum_tokens (f : Fin 24576 → EReal) :
    ∑ p : Fin 8, ∑ s : Fin 96, ∑ k : Fin 32, f (tokens (p, s, k)) = ∑ r, f r := by
  rw [← Equiv.sum_comp tokens f, Fintype.sum_prod_type]
  refine Finset.sum_congr rfl fun p _ => ?_
  rw [Fintype.sum_prod_type]

theorem meet1 : res1 a0 a1 = G2 (F := Ideal) a0 a1 := by
  funext y
  obtain ⟨j, rfl⟩ : ∃ j : Fin 3072, y = ix1 j := ⟨y 0, by funext a; match a with | 0 => rfl⟩
  rw [Cert.ReferenceIdeal.Mx.G2_apply, ← sum_tokens]
  simp only [← D_eq]
  pointwise [res1]
  rfl

theorem meet_rc (h : Finite a0) : arr3 a0 a1 = G3 (F := Ideal) a0 a1 := by
  funext y
  obtain ⟨r, j, rfl⟩ : ∃ (r : Fin 24576) (j : Fin 3072), y = ix2 r j := ⟨y 0, y 1, by funext a; match a with | 0 => rfl | 1 => rfl⟩
  rw [Cert.ReferenceIdeal.Mx.G3_apply, ← D_eq, ← (row_agree a0 a1 h _ _).2]
  rfl

theorem meet_rs (h : Finite a0) : res3 a0 a1 = G4 (F := Ideal) a0 a1 := by
  funext y
  obtain ⟨r, b, rfl⟩ : ∃ (r : Fin 24576) (b : Fin 96), y = ix2 r b := ⟨y 0, y 1, by funext a; match a with | 0 => rfl | 1 => rfl⟩
  rw [Cert.ReferenceIdeal.Mx.G4_apply, ← (row_agree a0 a1 h _ _).1]
  pointwise [res3]
  rfl

theorem meet_cc (h : Finite a0) : arr5 a0 a1 = G5 (F := Ideal) a0 a1 := by
  funext y
  obtain ⟨j, r, rfl⟩ : ∃ (j : Fin 3072) (r : Fin 24576), y = ix2 j r := ⟨y 0, y 1, by funext a; match a with | 0 => rfl | 1 => rfl⟩
  rw [Cert.ReferenceIdeal.Mx.G5_apply, ← D_eq, ← (col_agree a0 a1 h _ _).2]
  rfl

theorem meet_cs (h : Finite a0) : res5 a0 a1 = G6 (F := Ideal) a0 a1 := by
  funext y
  obtain ⟨j, b, rfl⟩ : ∃ (j : Fin 3072) (b : Fin 768), y = ix2 j b := ⟨y 0, y 1, by funext a; match a with | 0 => rfl | 1 => rfl⟩
  rw [Cert.ReferenceIdeal.Mx.G6_apply, ← (col_agree a0 a1 h _ _).1]
  pointwise [res5]
  rfl

end Cert.Mx

end
-- ==== Proof.Mx.Needed.lean ====
module

public import proofs.«01_k».proof.Proof.Mx.Meet

/-!
# The precondition is needed

Without finite gradients the claim is false: `finite_needed` gives inputs at which the two programs store different
row scales.
-/

@[expose] public section

set_option maxRecDepth 16384

noncomputable section

namespace Cert.Mx

open Idealize.ShloMosaic
open Cert.KernelIdeal.Mx (amax scaleOf res3)
open Cert.ReferenceIdeal.Value (G4)

/-- The kernel's search stops at the last field, 255. -/
theorem kernelExp_top : kernelExp ⊤ = 129#32 := by
  have : search ⊤ = BitVec.ofNat 32 255 := search_eq le_rfl fun E hE => by simp [hE]
  unfold kernelExp
  rw [Ideal.ofBits_zero_f32, this]
  have hc : Ideal.cmp .oeq (⊤ : EReal) 0 = 0#1 := by simp [Ideal.cmp]
  rw [hc]; rfl

/-- The reference's conversion saturates. -/
theorem refExp_top : refExp ⊤ ⊤ = 0x7FFFFFFF#32 := by
  unfold refExp
  rw [Ideal.ofBits_zero_f32, ofBits_two, ofBits_neg126, Ideal.ofBits_one_f32]
  have hc : Ideal.cmp .oeq (⊤ : EReal) 0 = 0#1 := by simp [Ideal.cmp]
  rw [hc, Ideal.log_coe, if_neg (by norm_num)]
  have : Ideal.div (Ideal.log ⊤) (Real.log 2 : EReal) = ⊤ := by
    rw [Ideal.div_coe (Real.log_pos one_lt_two).ne']
    show (⊤ : EReal) * _ = _
    exact EReal.top_mul_coe_of_pos (by have := Real.log_pos one_lt_two; positivity)
  rw [this]
  show Ideal.fptosi 32 (max ((⊤ : EReal) + 1) _) = _
  rw [show (⊤ : EReal) + 1 = ⊤ from rfl, max_eq_left le_top]
  rfl

/-- The row scale that the kernel stores. -/
theorem res3_apply (a0 a1 : Vec Ideal SX .bf16) (r : Fin 24576) (b : Fin 96) : res3 a0 a1 (ix2 r b)
    = BitVec.setWidth 8 (IntOp.addi (kernelExp (Cert.KernelIdeal.Mx.rowS a0 a1 r b)) 127#32) := by
  pointwise [res3]
  rfl

/-- The claim needs finite gradients: where every gradient and every `x` is `+∞`, the two programs store different
    row scales. -/
theorem finite_needed : res3 (fun _ => ⊤) (fun _ => ⊤) ≠ G4 (F := Ideal) (fun _ => ⊤) (fun _ => ⊤) := by
  intro h
  have h' := congrFun h (ix2 (0 : Fin 24576) (0 : Fin 96))
  have hM : ∀ f : Fin 32 → EReal, (∀ k, f k = ⊤) → amax f = ⊤ := by
    intro f hf
    unfold amax
    refine top_le_iff.mp (Finset.le_fold_max _ |>.mpr (.inr ⟨0, Finset.mem_univ _, ?_⟩))
    rw [hf]; simp
  have hD : ∀ r j, Cert.ReferenceIdeal.Mx.D (fun _ => ⊤) (fun _ => ⊤) r j = ⊤ := by
    intro r j
    unfold Cert.ReferenceIdeal.Mx.D
    rw [facR_eq, factorE_top]; simp
  have hs : scaleOf ⊤ = ⊤ := by
    unfold scaleOf
    rw [ofBits_scale448]
    exact EReal.top_mul_coe_of_pos (by unfold scale448; norm_num)
  have hr : Cert.ReferenceIdeal.Mx.rowM (fun _ => ⊤) (fun _ => ⊤) 0 0 = ⊤ := hM _ fun k => hD _ _
  have hk : Cert.KernelIdeal.Mx.rowS (fun _ => ⊤) (fun _ => ⊤) 0 0 = ⊤ := by
    unfold Cert.KernelIdeal.Mx.rowS
    simp only [D_eq]
    rw [hM _ fun k => hD _ _, hs]
  rw [Cert.ReferenceIdeal.Mx.G4_apply, hr, hs, refExp_top, res3_apply, hk, kernelExp_top] at h'
  exact absurd h' (by decide)

end Cert.Mx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal.Value
public import proofs.«01_k».proof.Proof.Gen.Pre_finite_grad
public import proofs.«01_k».proof.Proof.Mx.Meet
public import proofs.«01_k».proof.Proof.Mx.Needed
public import Idealize.ShloMosaic.Adequacy
public import Idealize.ShloMosaic.Init

@[expose] public section

noncomputable section

namespace Cert.Proof

open Idealize.ShloMosaic Idealize.SL.Sem Cert.Kernel

/-- Each folded constant of the kernel is the float its exact value rounds to. -/
theorem preserves_kernel : Cert.preserves_Kernel_KernelIdeal :=
  ⟨IdealRules.named_const.statement Cert.KernelIdeal.κ "y_scale" .f32 0x3EA88D5C#32 _ rfl,
    IdealRules.named_const.statement Cert.KernelIdeal.κ "y_lin" .f32 0x401B1D9B#32 _ rfl,
    IdealRules.named_const.statement Cert.KernelIdeal.κ "y_lin_third" .f32 0x3F4ED224#32 _ rfl⟩

/-- Each folded constant of the reference is the float its exact value rounds to. -/
theorem preserves_reference : Cert.preserves_Reference_ReferenceIdeal :=
  ⟨IdealRules.named_const.statement Cert.ReferenceIdeal.κ "gelu_k" .f32 0x3F4C422A#32 _ rfl,
    IdealRules.named_const.statement Cert.ReferenceIdeal.κ "gelu_c" .f32 0x3D372713#32 _ rfl,
    IdealRules.named_const.statement Cert.ReferenceIdeal.κ "gelu_3c" .f32 0x3E095D4F#32 _ rfl⟩

/-- Over the extended reals the kernel and the reference end with equal results, all five. -/
theorem algebraic : Cert.algebraic_KernelIdeal_ReferenceIdeal_pre_finite_grad (hKernelIdeal := Cert.KernelIdeal.Gen.facts)
    (hReferenceIdeal := Cert.ReferenceIdeal.Gen.facts) (hPre_finite_grad := Cert.Pre_finite_grad.Gen.facts) := by
  intro m g m' g' hpre hargs
  refine ⟨_, _, _, _, _, Cert.KernelIdeal.Mx.kernel_run m g, ?_⟩
  refine (θ_run Cert.ReferenceIdeal.defs _ _).mono (fun r h c => ?_) (Cert.ReferenceIdeal.Value.run m' g')
  have hf := Cert.Mx.finite_of_pre _ _ (hpre c)
  obtain ⟨h2, h3, h4, h5, h6, k0, k1⟩ := h c
  obtain ⟨e0, e1⟩ := hargs c
  refine ⟨h2.trans ?_, h3.trans ?_, h4.trans ?_, h5.trans ?_, h6.trans ?_, k0, k1⟩
  · rw [e0, e1]; exact (Cert.Mx.meet1 _ _).symm
  · rw [e0, e1]; exact (Cert.Mx.meet_rc _ _ hf).symm
  · rw [e0, e1]; exact (Cert.Mx.meet_rs _ _ hf).symm
  · rw [e0, e1]; exact (Cert.Mx.meet_cc _ _ hf).symm
  · rw [e0, e1]; exact (Cert.Mx.meet_cs _ _ hf).symm

theorem claim : Cert.Claim :=
  ⟨Cert.Kernel.Gen.facts, Cert.KernelIdeal.Gen.facts, Cert.ReferenceIdeal.Gen.facts, Cert.Reference.Gen.facts,
    Cert.Pre_finite_grad.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    preserves_kernel, preserves_reference, algebraic⟩

end Cert.Proof

end
